-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 512]⟩ ⟨2, ![1024, 512]⟩ (Layout.meshBlock [2, 2] ![[1], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S512x512 : Shape := ⟨2, ![512, 512]⟩
abbrev S512 : Shape := ⟨1, ![512]⟩
abbrev S_ : Shape := ⟨0, ![]⟩

class Facts : Prop where
  bcast_S_S512x512 : S_.BroadcastsInDim S512x512 (![] : Fin 0 → Fin S512x512.rank)

variable [Facts]

def fn {F : FTy → Type} [FloatOps F] (main_arg0 : FVec F S512x512 .f32) (main_arg1 : FVec F S512x512 .f32) (main_arg2 : FVec F S512 .f32) : IVec S512x512 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  main_v2
-- ==== Pre_x_finite_ReferenceIdeal.lean ====
abbrev S1024x512 : Shape := ⟨2, ![1024, 512]⟩
abbrev S512 : Shape := ⟨1, ![512]⟩
abbrev S_ : Shape := ⟨0, ![]⟩

class Facts : Prop where
  bcast_S_S1024x512 : S_.BroadcastsInDim S1024x512 (![] : Fin 0 → Fin S1024x512.rank)

variable [Facts]

def fn {F : FTy → Type} [FloatOps F] (main_arg0 : FVec F S1024x512 .f32) (main_arg1 : FVec F S1024x512 .f32) (main_arg2 : FVec F S512 .f32) : IVec S1024x512 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  main_v2
-- ==== Kernel.lean ====
abbrev S512x512 : Shape := ⟨2, ![512, 512]⟩
abbrev S512 : Shape := ⟨1, ![512]⟩
abbrev S2x512 : Shape := ⟨2, ![2, 512]⟩
abbrev S2x2x512 : Shape := ⟨3, ![2, 2, 512]⟩
abbrev S2 : Shape := ⟨1, ![2]⟩
abbrev S_ : Shape := ⟨0, ![]⟩
abbrev S1x1x512 : Shape := ⟨3, ![1, 1, 512]⟩
abbrev S1 : Shape := ⟨1, ![1]⟩
abbrev S512x1 : Shape := ⟨2, ![512, 1]⟩
abbrev S1x512 : Shape := ⟨2, ![1, 512]⟩

abbrev nBuf : Space → Nat
  | .hbm => 4
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512, .f32⟩
  | .hbm, ⟨3, _⟩ => ⟨S2x512, .f32⟩
  | .local _ .vmem, ⟨0, _⟩ => ⟨S512x512, .f32⟩
  | .local _ .vmem, ⟨1, _⟩ => ⟨S512x512, .f32⟩
  | .local _ .vmem, ⟨2, _⟩ => ⟨S2x512, .f32⟩
  | .local _ .vmem, ⟨3, _⟩ => ⟨S2x2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v20 : BitVec 32 := Scalar.muli v2 c2_i32_18
  let v21 : BitVec 32 := Scalar.addi c0_i32_19 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_20 : BitVec 32 := 1#32
  let v22 : BitVec 32 := Scalar.muli v6 c1_i32_20
  let v23 : BitVec 32 := Scalar.addi v21 v22
  v23.toNat
def k0_dev3 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v55 : BitVec 32 := Scalar.muli v2 c2_i32_38
  let v56 : BitVec 32 := Scalar.addi c0_i32_39 v55
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_40 : BitVec 32 := 1#32
  let v57 : BitVec 32 := Scalar.muli v6 c1_i32_40
  let v58 : BitVec 32 := Scalar.addi v56 v57
  v58.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S512 : Shape := ⟨1, ![512]⟩
abbrev S_ : Shape := ⟨0, ![]⟩
abbrev S1024 : Shape := ⟨1, ![1024]⟩
abbrev S1024x1 : Shape := ⟨2, ![1024, 1]⟩
abbrev S1x512 : Shape := ⟨2, ![1, 512]⟩
abbrev S2x512 : Shape := ⟨2, ![2, 512]⟩

abbrev nBuf : Space → Nat
  | .hbm => 52
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S512, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S_, .f32⟩
  | .hbm, ⟨34, _⟩ => ⟨S1024x1, .f32⟩
  | .hbm, ⟨35, _⟩ => ⟨S1024x1, .f32⟩
  | .hbm, ⟨36, _⟩ => ⟨S1024x1, .f32⟩
  | .hbm, ⟨37, _⟩ => ⟨S_, .f32⟩
  | .hbm, ⟨38, _⟩ => ⟨S1024x1, .f32⟩
  | .hbm, ⟨39, _⟩ => ⟨S1024x1, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S1024x512, .f32⟩
  | .hbm, ⟨45, _⟩ => ⟨S_, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S1x512, .f32⟩
  | .hbm, ⟨51, _⟩ => ⟨S2x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.KernelEnd.lean ====
/-
# What the arrays hold at the end

The one grid point stages the whole blocks of `x` and `dy` and writes the whole result array back. So the run ends with
`x`, `dy` and `gamma` as they were and the result array at what the body left in its buffer.
-/
module

public import proofs.«01_k».proof.Proof.KernelRun
public import proofs.«01_k».proof.Proof.Gen.Kernel.Points
public import Idealize.ShloMosaic.Lib.Pipeline.ValueKit

@[expose] public section

noncomputable section

namespace Cert.KernelProof

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The blocks of `x` and `dy` at the one grid point start at the origin. -/
theorem idx : win0_0.index (0 : Fin 1) = ![0, 0] ∧ win0_1.index (0 : Fin 1) = ![0, 0] := by decide +kernel

/-- The block of `x` that a device stages is its whole array. -/
theorem xstg_eq (c : Dev nD) : xstg m ρ c = m ((c : Thread nD τ).loc main_arg0) := by
  unfold xstg s₀
  funext i
  blk_ext [idx]

/-- The block of `dy` that a device stages is its whole array. -/
theorem ystg_eq (c : Dev nD) : ystg m ρ c = m ((c : Thread nD τ).loc main_arg1) := by
  unfold ystg s₀
  funext i
  blk_ext [idx]

/-- The result array ends at what the body left in its buffer. -/
theorem final_out (c : Dev nD) : finalA m ρ c (2 : Fin 3) = outAt m ρ c := by
  refine (dats m ρ 0 c).arrAt_eq_of_after_last (2 : Fin 3) t0_0 (by decide +kernel) _ fun j => ?_
  blk_simp
  rfl

/-- Every fair run from zero counters ends with the result at `outAt` on every device, the arguments unchanged, and every
    counter zero. -/
theorem ran : θ_run defs (onTc (τ := τ) (main (F := F))) ⟨m, fun _ => 0, ρ⟩ fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 :=
  (θ_run defs _ _).mono (fun _ h => ⟨fun c =>
      ⟨((h.1 c).1 (2 : Fin 3)).trans (final_out m ρ c),
       ((h.1 c).1 (0 : Fin 3)).trans ((dats m ρ 0 c).arrAt_in (0 : Fin 3) rfl _),
       ((h.1 c).1 (1 : Fin 3)).trans ((dats m ρ 0 c).arrAt_in (1 : Fin 3) rfl _),
       (h.1 c).2⟩, h.2⟩) (run_main m ρ)

end Cert.KernelProof

end
-- ==== Proof.KernelIdealComm.lean ====
/-
# The exchange of the two row sums between a device and its partner

Device `(x, y)` of the `2 × 2` mesh computes two row sums of its block, puts them in the rows `[0, 0]` (the sum of
`dy * x̂`) and `[0, 1]` (the sum of `dy`) of its scratch buffer, and copies each to the row `[1, _]` of the
scratch buffer of device `(x, 1 - y)`. This module holds what the run is stated with: the cells, the rows, the
contents each row ends at, the schedule of the cells and the order in which they are waited for.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's own and the exchange's, whose cells have one duty each -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: the contents `m`, every counter zero. -/
def s₀ : MemSt nD τ sig (Elt F) := ⟨m, fun _ => 0, ρ⟩

/-! ## The partner -/

/-- The partner of device `(x, y)` is device `(x, 1 - y)`. -/
def peer : Dev nD → Dev nD := fun | 0 => 1 | 1 => 0 | 2 => 3 | 3 => 2

theorem peer_peer (c : Dev nD) : peer (peer c) = c := by revert c; decide
theorem peer_inj {a b : Dev nD} (h : peer a = peer b) : a = b := by rw [← peer_peer a, h, peer_peer]
theorem peer_val (c : Dev nD) : (peer c).val = (2 * (c.val / 2) + 1) - (c.val % 2) := by revert c; decide

/-- The signal and both copies name the partner. -/
theorem dev1_eq (c : Dev nD) : (⟨k0_dev1 c, k0_dev1_lt c⟩ : Dev nD) = peer c := Fin.ext ((k0_dev1_eq c).trans (peer_val c).symm)
theorem dev2_eq (c : Dev nD) : (⟨k0_dev2 c, k0_dev2_lt c⟩ : Dev nD) = peer c := Fin.ext ((k0_dev2_eq c).trans (peer_val c).symm)
theorem dev3_eq (c : Dev nD) : (⟨k0_dev3 c, k0_dev3_lt c⟩ : Dev nD) = peer c := Fin.ext ((k0_dev3_eq c).trans (peer_val c).symm)

/-- The exchange of partners, as a permutation of the devices. -/
def swap : Dev nD ≃ Dev nD := ⟨peer, peer, peer_peer, peer_peer⟩

/-! ## The cells -/

/-- The semaphore at position `i` of an array of two. -/
abbrev dsem (A : DmaSems sig S2) (i : ℕ) (h : ∀ a, (![i] : Fin 1 → ℕ) a + S1.size a ≤ S2.size a) : DmaSem sig :=
  ((A.slice (Rect.unit (s := S2) ![i] S1.size h)).squeeze S_ squeezes_S1_S_).sem

abbrev barS : Sem sig := (SemArray.scalar (sig.barrier 0 rfl) : Sems sig S_).sem
abbrev sendB : DmaSem sig := dsem cc0_scratch1 1 inb_S2_S1_1
abbrev recvB : DmaSem sig := dsem cc0_scratch2 1 inb_S2_S1_1
abbrev sendG : DmaSem sig := dsem cc0_scratch1 0 inb_S2_S1_0
abbrev recvG : DmaSem sig := dsem cc0_scratch2 0 inb_S2_S1_0

/-- The five semaphores of a device: the barrier; send and receive of the sum of `dy`; send and receive of the other sum. -/
abbrev csem : Fin 5 → SemLoc sig :=
  fun | 0 => .reg barS | 1 => .dma sendB | 2 => .dma recvB | 3 => .dma sendG | 4 => .dma recvG
/-- The four of them that the kernel allocates itself. -/
abbrev osem : Fin 4 → SemLoc sig := fun | 0 => .dma sendB | 1 => .dma recvB | 2 => .dma sendG | 3 => .dma recvG

/-- Which of the five a semaphore is, if any. -/
def kindOf (s : SemLoc sig) : Option (Fin 5) :=
  if s = csem 0 then some 0 else if s = csem 1 then some 1 else if s = csem 2 then some 2
  else if s = csem 3 then some 3 else if s = csem 4 then some 4 else none

theorem kindOf_csem (k : Fin 5) : kindOf (csem k) = some k := by revert k; decide
theorem csem_inj : Function.Injective csem := fun a b h =>
  Option.some.inj (by rw [← kindOf_csem a, h, kindOf_csem b])

/-- Cell `k` of device `c`. -/
abbrev kc (c : Dev nD) (k : Fin 5) : GSem nD τ sig := ((c : Thread nD τ), csem k)
abbrev kcell (ck : Dev nD × Fin 5) : GSem nD τ sig := kc ck.1 ck.2

theorem kc_inj {c d : Dev nD} {k l : Fin 5} (h : kc c k = kc d l) : c = d ∧ k = l :=
  ⟨congrArg (fun g : GSem nD τ sig => g.1.1) h, csem_inj (congrArg Prod.snd h)⟩

/-! ## The rows of the scratch buffer -/

abbrev xM : Memref sig .tc .vmem S512x512 .f32 := Memref.whole cc0_stg0_0
abbrev yM : Memref sig .tc .vmem S512x512 .f32 := Memref.whole cc0_stg1_0
abbrev oM : Memref sig .tc .vmem S2x512 .f32 := Memref.whole cc0_stg2_0
abbrev sM : Memref sig .tc .vmem S2x2x512 .f32 := Memref.whole cc0_scratch0

/-- Row `[i, j]` lies in the buffer. -/
abbrev RowIn (i j : ℕ) : Prop := ∀ a, (![i, j, 0] : Fin 3 → ℕ) a + S1x1x512.size a ≤ S2x2x512.size a
abbrev rowR (i j : ℕ) (h : RowIn i j) : Rect S2x2x512 := Rect.unit (s := S2x2x512) ![i, j, 0] S1x1x512.size h
abbrev rowM (i j : ℕ) (h : RowIn i j) : Memref sig .tc .vmem S512 .f32 :=
  (sM.slice (rowR i j h) (fun _ => rfl)).squeeze S512 squeezes_S1x1x512_S512

abbrev h00 : RowIn 0 0 := inb_S2x2x512_S1x1x512_0_0_0
abbrev h01 : RowIn 0 1 := inb_S2x2x512_S1x1x512_0_1_0
abbrev h10 : RowIn 1 0 := inb_S2x2x512_S1x1x512_1_0_0
abbrev h11 : RowIn 1 1 := inb_S2x2x512_S1x1x512_1_1_0

/-- The contents of a scratch buffer. -/
abbrev Scr (F : FTy → Type) (c : Dev nD) : Type := Buf (Elt F) ((c : Thread nD τ).loc cc0_scratch0)

/-- Device `c` holds row `[i, j]` of its scratch buffer, at the contents `f` there. -/
def rowPts (i j : ℕ) (h : RowIn i j) (c : Dev nD) (f : Scr F c) : sProp 𝕄 :=
  (rowM i j h).view.loc (c : Thread nD τ) ↦[(rowM i j h).view.set]{fullShare} f

omit [FloatOps F] in
instance rowPts_storable (i j : ℕ) (h : RowIn i j) (c : Dev nD) (f) : BI.Storable (upEmb : UEmb _ 𝕄) (rowPts (F := F) i j h c f) := by
  unfold rowPts; infer_instance

/-- The credit of one row's copy. -/
abbrev N : ℕ := (rowM 0 0 h00).view.dmaCredit
theorem N_pos : 0 < N := View.dmaCredit_pos _ (by decide)

theorem row_set (i j : ℕ) (h : RowIn i j) : (rowM i j h).view.set = (rowR i j h).set := by
  rw [Memref.set_view_squeeze]; exact View.set_slice_whole cc0_scratch0 (rowR i j h)

theorem access_set (i j : ℕ) (h : RowIn i j) : (sM.access (rowR i j h) : View sig .tc _ _ _).set = (rowM i j h).view.set :=
  (View.set_slice_whole cc0_scratch0 (rowR i j h)).trans (row_set i j h).symm

/-- An index lies in row `[i, j]` when its first two coordinates are `i` and `j`. -/
theorem mem_row (i j : ℕ) (h : RowIn i j) (x : S2x2x512.Idx) : x ∈ (rowR i j h).set ↔ (x 0).val = i ∧ (x 1).val = j := by
  refine Rect.mem_set_unit.trans ⟨fun H => ?_, fun H a => ?_⟩
  · have a0 := H 0; have a1 := H 1
    simp at a0 a1
    omega
  · have hx2 : (x 2).val < 512 := (x 2).isLt
    obtain ⟨e0, e1⟩ := H
    fin_cases a <;> simp [e0, e1, hx2]

/-- The four rows are the buffer. -/
theorem rows_univ : (Finset.univ : Finset S2x2x512.Idx) =
    (((rowR 0 0 h00).set ∪ (rowR 0 1 h01).set) ∪ (rowR 1 0 h10).set) ∪ (rowR 1 1 h11).set := by
  ext x
  have h0 : (x 0).val < 2 := (x 0).isLt
  have h1 : (x 1).val < 2 := (x 1).isLt
  simp only [Finset.mem_univ, Finset.mem_union, mem_row, true_iff]
  omega

theorem row_disj {i j i' j' : ℕ} (h : RowIn i j) (h' : RowIn i' j') (hne : ¬ (i = i' ∧ j = j')) :
    Disjoint (rowR i j h).set (rowR i' j' h').set :=
  Finset.disjoint_left.mpr fun x hx hx' => by
    rw [mem_row] at hx hx'; exact hne ⟨hx.1.symm.trans hx'.1, hx.2.symm.trans hx'.2⟩

omit [FloatOps F] in
/-- The whole buffer at contents `f` is its four rows at `f`. -/
theorem scr_split (c : Dev nD) (f : Scr F c) :
    (((c : Thread nD τ).loc cc0_scratch0) ↦{fullShare} f : sProp 𝕄)
      ⊣⊢ iprop(((rowPts 0 0 h00 c f ∗ rowPts 0 1 h01 c f) ∗ rowPts 1 0 h10 c f) ∗ rowPts 1 1 h11 c f) := by
  have hu : (((c : Thread nD τ).loc cc0_scratch0) ↦{fullShare} f : sProp 𝕄)
      = (((c : Thread nD τ).loc cc0_scratch0) ↦[(((rowM 0 0 h00).view.set ∪ (rowM 0 1 h01).view.set) ∪ (rowM 1 0 h10).view.set) ∪ (rowM 1 1 h11).view.set]{fullShare} f) :=
    congrArg (fun S => (((c : Thread nD τ).loc cc0_scratch0) ↦[S]{fullShare} f : sProp 𝕄))
      (rows_univ.trans (by rw [← row_set, ← row_set, ← row_set, ← row_set]))
  rw [hu]
  unfold rowPts
  have d {i j i' j' : ℕ} (h : RowIn i j) (h' : RowIn i' j') (hne : ¬ (i = i' ∧ j = j')) :
      Disjoint (rowM i j h).view.set (rowM i' j' h').view.set := by
    rw [row_set, row_set]; exact row_disj h h' hne
  have e1 := pointsTo_union (Ix := Unit) (Val := Elt F) (Name := ℕ) (U := UU) (Lvl := ℕ) (ℓ := (c : Thread nD τ).loc cc0_scratch0) (q := fullShare) (f := f)
    (d h00 h01 (by decide))
  have e2 := pointsTo_union (Ix := Unit) (Val := Elt F) (Name := ℕ) (U := UU) (Lvl := ℕ) (ℓ := (c : Thread nD τ).loc cc0_scratch0) (q := fullShare) (f := f)
    (Finset.disjoint_union_left.mpr ⟨d h00 h10 (by decide), d h01 h10 (by decide)⟩)
  have e3 := pointsTo_union (Ix := Unit) (Val := Elt F) (Name := ℕ) (U := UU) (Lvl := ℕ) (ℓ := (c : Thread nD τ).loc cc0_scratch0) (q := fullShare) (f := f)
    (Finset.disjoint_union_left.mpr ⟨Finset.disjoint_union_left.mpr ⟨d h00 h11 (by decide), d h01 h11 (by decide)⟩, d h10 h11 (by decide)⟩)
  exact ⟨e3.1.trans (sep_mono_left (e2.1.trans (sep_mono_left e1.1))), (sep_mono_left ((sep_mono_left e1.2).trans e2.2)).trans e3.2⟩

/-! ## Contents -/

/-- The block of `x` that device `c` reads. -/
def xstg (c : Dev nD) : (cc0_stg0_0 : Ref sig .tc).ty.Contents (Elt F) :=
  (win0_0.blk (0 : Fin 1)).view.read (Elt F) ((s₀ m ρ).mem ((c : Thread nD τ).loc main_arg0))
/-- The block of `dy` that device `c` reads. -/
def ystg (c : Dev nD) : (cc0_stg1_0 : Ref sig .tc).ty.Contents (Elt F) :=
  (win0_1.blk (0 : Fin 1)).view.read (Elt F) ((s₀ m ρ).mem ((c : Thread nD τ).loc main_arg1))

/-- The two sums of device `c`: at `j = 0` the sum over the rows of `dy * x̂`, otherwise that of `dy`. -/
def rowv (c : Dev nD) (j : ℕ) : FVec F S1x1x512 .f32 :=
  if j = 0 then k0_pay5 (k0_pay2 (xstg m ρ c)) (k0_pay3 (ystg m ρ c)) else k0_pay4 (ystg m ρ c)

/-- The place of an index of the buffer within its row. -/
def lane (x : S2x2x512.Idx) : S1x1x512.Idx :=
  fun | ⟨0, _⟩ => ⟨0, Nat.one_pos⟩ | ⟨1, _⟩ => ⟨0, Nat.one_pos⟩ | ⟨2, _⟩ => x 2

/-- Whose sums the rows `[i, _]` of device `c` hold: its own at `i = 0`, its partner's otherwise. -/
def owner (c : Dev nD) (i : ℕ) : Dev nD := if i = 0 then c else peer c

/-- What device `c`'s scratch buffer ends at. -/
def scrAll (c : Dev nD) : Scr F c :=
  fun x : S2x2x512.Idx => rowv m ρ (owner c (x 0).val) (x 1).val (lane x)

theorem rowR_coord (i j : ℕ) (h : RowIn i j) (y : S1x1x512.Idx) :
    ((rowR i j h).emb y 0).val = i ∧ ((rowR i j h).emb y 1).val = j ∧ lane ((rowR i j h).emb y) = y := by
  have e0 : (y 0).val = 0 := Nat.lt_one_iff.mp (y 0).isLt
  have e1 : (y 1).val = 0 := Nat.lt_one_iff.mp (y 1).isLt
  have c0 : ((rowR i j h).emb y 0).val = i + 1 * (y 0).val := rfl
  have c1 : ((rowR i j h).emb y 1).val = j + 1 * (y 1).val := rfl
  have c2 : ((rowR i j h).emb y 2).val = 0 + 1 * (y 2).val := rfl
  refine ⟨by omega, by omega, funext fun a => Fin.ext ?_⟩
  fin_cases a
  · exact e0.symm
  · exact e1.symm
  · show ((rowR i j h).emb y 2).val = (y 2).val
    omega

/-- The row `[i, j]` of it. -/
theorem scrAll_row (c : Dev nD) (i j : ℕ) (h : RowIn i j) (y : S1x1x512.Idx) :
    scrAll m ρ c ((rowR i j h).emb y) = rowv m ρ (owner c i) j y := by
  obtain ⟨e0, e1, e2⟩ := rowR_coord i j h y
  show rowv m ρ (owner c ((rowR i j h).emb y 0).val) ((rowR i j h).emb y 1).val (lane ((rowR i j h).emb y)) = _
  rw [e0, e1, e2]

/-- A load of the row `[i, j]` reads its owner's sum. -/
theorem read_row (c : Dev nD) (i j : ℕ) (h : RowIn i j) :
    (sM.access (rowR i j h) : View sig .tc _ _ _).read (Elt F) (scrAll m ρ c) = rowv m ρ (owner c i) j :=
  funext fun y => scrAll_row m ρ c i j h y

/-- After the store of its own sum into the row `[0, j]` the row is at its final contents. -/
theorem stored_row (j : ℕ) (h : RowIn 0 j) (c : Dev nD) (f : Scr F c) :
    (rowPts 0 j h c ((sM.access (rowR 0 j h) : View sig .tc _ _ _).write (Elt F) f (rowv m ρ c j) Finset.univ) : sProp 𝕄)
      = rowPts 0 j h c (scrAll m ρ c) := by
  unfold rowPts
  refine pointsTo_congr fun x hx => ?_
  rw [← access_set] at hx
  obtain ⟨y, -, rfl⟩ := Finset.mem_map.mp hx
  rw [View.write_emb_of_mem _ _ (Finset.mem_univ _)]
  exact (scrAll_row m ρ c 0 j h y).symm

/-- The row `[0, j]` of device `c` copied into the row `[1, j]` of its partner is the partner's final contents there. -/
theorem landed_row (j : ℕ) (h : RowIn 0 j) (h' : RowIn 1 j) (c : Dev nD) (f : Scr F (peer c)) :
    (rowPts 1 j h' (peer c) ((rowM 1 j h').view.write (Elt F) f ((rowM 0 j h).view.read (Elt F) (scrAll m ρ c)) Finset.univ) : sProp 𝕄)
      = rowPts 1 j h' (peer c) (scrAll m ρ (peer c)) := by
  unfold rowPts
  refine pointsTo_congr fun x hx => ?_
  obtain ⟨y, -, rfl⟩ := Finset.mem_map.mp hx
  rw [View.write_emb_of_mem _ _ (Finset.mem_univ _)]
  refine (scrAll_row m ρ c 0 j h (Shape.reshapeEquiv squeezes_S1x1x512_S512.numel_eq y)).trans
    (Eq.trans ?_ (scrAll_row m ρ (peer c) 1 j h' (Shape.reshapeEquiv squeezes_S1x1x512_S512.numel_eq y)).symm)
  show rowv m ρ c j _ = rowv m ρ (peer (peer c)) j _
  rw [peer_peer]

/-! ## The schedule: one duty per cell, all in one round -/

/-- What a cell hands over: the barrier of `c` the two rows its partner receives into; the send cells the sent rows back;
    the receive cells the rows the partner's sums have landed in. -/
def pay (c : Dev nD) : Fin 5 → sProp 𝕄 := fun
  | 0 => iprop((∃ f, rowPts 1 1 h11 (peer c) f) ∗ ∃ f, rowPts 1 0 h10 (peer c) f)
  | 1 => rowPts 0 1 h01 c (scrAll m ρ c)
  | 2 => rowPts 1 1 h11 c (scrAll m ρ c)
  | 3 => rowPts 0 0 h00 c (scrAll m ρ c)
  | 4 => rowPts 1 0 h10 c (scrAll m ρ c)

/-- How much each cell counts: the barrier one, the others a row's credit. -/
def amt (k : Fin 5) : ℕ := if k = 0 then 1 else N

/-- The schedule of the exchange. -/
def Rd : Rounds.Schedule (GSem nD τ sig) Unit 𝕄 where
  duties g r := if r = 0 ∧ g.1.2 = .tc ∧ (kindOf g.2).isSome then {()} else ∅
  unitless _ := False
  amount g _ _ := amt ((kindOf g.2).getD 0)
  payload g _ _ := match kindOf g.2 with
    | some k => pay m ρ g.1.1 k
    | none => iprop(emp)
  amount_pos g _ _ _ := by
    unfold amt
    split
    · exact Nat.one_pos
    · exact N_pos

instance Rd_payload_storable (g : GSem nD τ sig) (r : ℕ) (d : Unit) :
    BI.Storable (upEmb : UEmb _ 𝕄) ((Rd (F := F) m ρ).payload g r d) := by
  show BI.Storable upEmb (match kindOf g.2 with | some k => pay m ρ g.1.1 k | none => iprop(emp))
  split
  · next k _ => fin_cases k <;> (dsimp only [pay]; infer_instance)
  · infer_instance

section Sched
variable (c : Dev nD) (k : Fin 5)

theorem duties_k : (Rd (F := F) m ρ).duties (kc c k) 0 = {()} := by
  dsimp only [Rd]; rw [kindOf_csem]; exact if_pos ⟨rfl, rfl, rfl⟩
theorem duties_later (g : GSem nD τ sig) : ∀ r, 1 ≤ r → (Rd (F := F) m ρ).duties g r = ∅ :=
  fun r hr => by dsimp only [Rd]; exact if_neg fun h => by omega
theorem amount_k (d : Unit) : (Rd (F := F) m ρ).amount (kc c k) 0 d = amt k := by
  dsimp only [Rd]; rw [kindOf_csem]; rfl
theorem expect_k : (Rd (F := F) m ρ).expect (kc c k) 0 = amt k := by
  unfold Schedule.expect Schedule.amountOf; rw [duties_k, Finset.sum_singleton, amount_k]
theorem payload_k (d : Unit) : (Rd (F := F) m ρ).payload (kc c k) 0 d = pay m ρ c k := by
  dsimp only [Rd]; rw [kindOf_csem]
/-- All that a cell hands over in its round. -/
theorem rest_k : bigSep ((Rd (F := F) m ρ).duties (kc c k) 0 \ ∅) (fun d => (Rd (F := F) m ρ).payload (kc c k) 0 d) = pay m ρ c k := by
  rw [Finset.sdiff_empty, duties_k, bigSep_singleton, payload_k]

end Sched

/-! ## What a device owes; the order of the waits -/

/-- After its signal a device owes its partner the two rows. -/
def O₁ (c : Dev nD) : CellTallies nD τ sig Unit := tallyAt (kc (peer c) 4) () N + tallyAt (kc (peer c) 2) () N
/-- At launch it owes the signal too. -/
def O₀ (c : Dev nD) : CellTallies nD τ sig Unit := O₁ c + tallyAt (kc (peer c) 0) () 1

def L (g : GSem nD τ sig) : Finset Unit := if g.1.2 = .tc then {()} else ∅
/-- The barriers come before the receive cells; everything else is waited for with nothing owed above it. -/
def lvK : Fin 5 → ℕ := fun | 0 => 1 | 1 => 0 | 2 => 2 | 3 => 0 | 4 => 2
def lv (g : GSem nD τ sig) (_ : Unit) : ℕ := ((kindOf g.2).map lvK).getD 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Fin 5) (u : Unit) : lv (kc c k) u = lvK k := by unfold lv; rw [kindOf_csem]; rfl

theorem tally_pos {a g : GSem nD τ sig} {u : Unit} {n : ℕ} (h : 0 < (tallyAt a () n : CellTallies nD τ sig Unit) g u) : g = a := by
  rw [tallyAt_apply] at h
  by_contra hn
  rw [if_neg fun h' => hn h'.1] at h
  exact Nat.lt_irrefl 0 h

theorem O₁_pos {c : Dev nD} {g : GSem nD τ sig} {u : Unit} (h : 0 < O₁ c g u) : g = kc (peer c) 4 ∨ g = kc (peer c) 2 := by
  unfold O₁ at h
  rw [Pi.add_apply, Finsupp.add_apply] at h
  rcases Nat.add_pos_iff_pos_or_pos.mp h with h | h
  · exact .inl (tally_pos h)
  · exact .inr (tally_pos h)

theorem O₀_pos {c : Dev nD} {g : GSem nD τ sig} {u : Unit} (h : 0 < O₀ c g u) : ∃ k, g = kc (peer c) k ∧ 1 ≤ lvK k := by
  unfold O₀ at h
  rw [Pi.add_apply, Finsupp.add_apply] at h
  rcases Nat.add_pos_iff_pos_or_pos.mp h with h | h
  · rcases O₁_pos h with h | h
    · exact ⟨4, h, by decide⟩
    · exact ⟨2, h, by decide⟩
  · exact ⟨0, tally_pos h, by decide⟩

omit [FloatOps F] in
/-- A wait on a semaphore at level `0` is allowed at launch. -/
theorem mayWait_stage (c : Dev nD) (q : DmaSem sig) (hq : ∀ u, lv ((c : Thread nD τ), .dma q) u = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨k, rfl, -⟩ := O₀_pos hg; exact Finset.mem_singleton_self _)
      (fun p hp => by rw [Finset.mem_singleton.mp hp]; exact le_of_eq (hq _))
      (fun g u hg => by obtain ⟨k, rfl, hk⟩ := O₀_pos hg; rw [lv_k]; exact hk)
  · rw [MayWait_zero]; iintro -; iempintro

omit [FloatOps F] in
/-- At its barrier a device owes its partner's receive cells only. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_k c 0 ()))
    (fun g u hg => by rcases O₁_pos hg with rfl | rfl <;> (rw [lv_k]; decide))

/-! ## The result block -/

/-- The place of an index of the result within its row. -/
def laneO (i : S2x512.Idx) : S1x512.Idx := fun | ⟨0, _⟩ => ⟨0, Nat.one_pos⟩ | ⟨1, _⟩ => i 1

/-- The result on device `c`: in row `0` its own and its partner's sum of `dy * x̂` added, in row `1` those of `dy`. -/
def outAt (c : Dev nD) : (cc0_stg2_0 : Ref sig .tc).ty.Contents (Elt F) :=
  fun i : S2x512.Idx => if (i 0).val = 0 then k0_pay1 (rowv m ρ c 0) (rowv m ρ (peer c) 0) (laneO i)
    else k0_pay6 (rowv m ρ c 1) (rowv m ρ (peer c) 1) (laneO i)

abbrev outR (i : ℕ) (h : ∀ a, (![i, 0] : Fin 2 → ℕ) a + S1x512.size a ≤ S2x512.size a) : Rect S2x512 :=
  Rect.unit (s := S2x512) ![i, 0] S1x512.size h

theorem outR_coord (i : ℕ) (h) (y : S1x512.Idx) : ((outR i h).emb y 0).val = i ∧ laneO ((outR i h).emb y) = y := by
  have e0 : (y 0).val = 0 := Nat.lt_one_iff.mp (y 0).isLt
  have c0 : ((outR i h).emb y 0).val = i + 1 * (y 0).val := rfl
  have c1 : ((outR i h).emb y 1).val = 0 + 1 * (y 1).val := rfl
  refine ⟨by omega, funext fun a => Fin.ext ?_⟩
  fin_cases a
  · exact e0.symm
  · show ((outR i h).emb y 1).val = (y 1).val
    omega

theorem mem_outR (i : ℕ) (h) (x : S2x512.Idx) (hx : (x 0).val = i) : ∃ y, (outR i h).emb y = x := by
  have hm : x ∈ (outR i h).set := Rect.mem_set_unit.mpr fun a => by
    have hx1 : (x 1).val < 512 := (x 1).isLt
    fin_cases a <;> simp [hx, hx1]
  rw [← Rect.map_emb_univ] at hm
  obtain ⟨y, -, e⟩ := Finset.mem_map.mp hm
  exact ⟨y, e⟩

/-- The two stores, of row `1` and then of row `0`, leave the result whatever the buffer held. -/
theorem write_out (c : Dev nD) (f : (cc0_stg2_0 : Ref sig .tc).ty.Contents (Elt F)) (h0 h1) :
    (oM.access (outR 0 h0) : View sig .tc _ _ _).write (Elt F)
        ((oM.access (outR 1 h1) : View sig .tc _ _ _).write (Elt F) f (k0_pay6 (rowv m ρ c 1) (rowv m ρ (peer c) 1)) Finset.univ)
        (k0_pay1 (rowv m ρ c 0) (rowv m ρ (peer c) 0)) Finset.univ
      = outAt m ρ c := by
  funext x
  by_cases hx : ((x : S2x512.Idx) 0).val = 0
  · obtain ⟨y, rfl⟩ := mem_outR 0 h0 x hx
    refine (View.write_emb_of_mem (v := (oM.access (outR 0 h0) : View sig .tc _ _ _)) _ _ (Finset.mem_univ y)).trans ?_
    show _ = if ((outR 0 h0).emb y 0).val = 0 then _ else _
    rw [if_pos hx, (outR_coord 0 h0 y).2]; rfl
  · have hx1 : ((x : S2x512.Idx) 0).val = 1 := by have := ((x : S2x512.Idx) 0).isLt; change _ < 2 at this; omega
    rw [View.write_of_not_mem]
    · obtain ⟨y, rfl⟩ := mem_outR 1 h1 x hx1
      refine (View.write_emb_of_mem (v := (oM.access (outR 1 h1) : View sig .tc _ _ _)) _ _ (Finset.mem_univ y)).trans ?_
      show _ = if ((outR 1 h1).emb y 0).val = 0 then _ else _
      rw [if_neg hx, (outR_coord 1 h1 y).2]; rfl
    · intro hm
      obtain ⟨y, -, e⟩ := Finset.mem_map.mp hm
      exact hx (by rw [← e]; exact (outR_coord 0 h0 y).1)

/-! ## What a device starts from and ends with -/

/-- The invariants of the cells device `c` touches: its own five and the three of its partner it signals or copies to. -/
def invs (K : Dev nD × Fin 5 → ℕ) (c : Dev nD) : sProp 𝕄 :=
  iprop((bigSep Finset.univ fun k : Fin 5 => cellInv ER (Rd m ρ) (K (c, k)) (kc c k))
    ∗ (bigSep Finset.univ fun k : Fin 5 => cellInv ER (Rd m ρ) (K (peer c, k)) (kc (peer c) k)))
def reaches (c : Dev nD) : sProp 𝕄 :=
  iprop((bigSep Finset.univ fun k : Fin 5 => (reached ER (kc c k) 0 : sProp 𝕄)) ∗ bigSep Finset.univ fun k : Fin 5 => reached ER (kc (peer c) k) 0)

instance invs_persistent (K : Dev nD × Fin 5 → ℕ) (c : Dev nD) : BI.Persistent (invs m ρ K c) := by unfold invs; infer_instance
instance reaches_persistent (c : Dev nD) : BI.Persistent (reaches (F := F) c) := by unfold reaches; infer_instance

/-- The duties device `c` pays: its partner's barrier and receive cells, its own send cells. -/
def payToks (c : Dev nD) : sProp 𝕄 :=
  iprop(dutyTok ER (kc (peer c) 0) 0 () ∗ dutyTok ER (kc c 1) 0 () ∗ dutyTok ER (kc (peer c) 2) 0 () ∗ dutyTok ER (kc c 3) 0 () ∗ dutyTok ER (kc (peer c) 4) 0 ())

def ghost (K : Dev nD × Fin 5 → ℕ) (c : Dev nD) : sProp 𝕄 :=
  iprop(invs m ρ K c ∗ reaches c ∗ (bigSep Finset.univ fun k : Fin 5 => atPos ER (kc c k) 0 ∅ 0) ∗ payToks c)

/-- The credits of its own barrier and receive cells. -/
def credits (c : Dev nD) : sProp 𝕄 :=
  iprop(cred (tallyAt (kc c 0) () 1) ∗ cred (tallyAt (kc c 2) () N) ∗ cred (tallyAt (kc c 4) () N))

def start (c : Dev nD) : sProp 𝕄 := iprop((∃ K, ghost m ρ K c) ∗ credits c ∗ levAts L lv)

/-- Before the kernel: that and the scratch buffer at any contents. -/
def Φ₀ (c : Dev nD) : sProp 𝕄 := iprop(start m ρ c ∗ ∃ f : Scr F c, (((c : Thread nD τ).loc cc0_scratch0) ↦{fullShare} f))
/-- After it: the scratch buffer and the five counters at zero. -/
def Φ₁ (c : Dev nD) : sProp 𝕄 :=
  iprop((∃ f : Scr F c, (((c : Thread nD τ).loc cc0_scratch0) ↦{fullShare} f)) ∗ bigSep Finset.univ fun k : Fin 5 => semVal (kc c k) 0)

/-- The run of the pipeline: what each window's staging buffer holds after the kernel, what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => ystg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdealProof

end
-- ==== Proof.KernelIdealBody.lean ====
/-
# One device's run of the kernel

The body of the kernel on device `c`, one rule per operation in program order: the signal, the loads and the first
store, the barrier, the two copies with the second store between them, and the waits with the two result rows.
-/
module

public import proofs.«01_k».proof.Proof.KernelIdealComm

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

section Body

variable (K : Dev nD × Fin 5 → ℕ)

theorem hz : (![0, 0] : Fin 2 → Nat) = fun _ => 0 := funext fun a => by fin_cases a <;> rfl

abbrev inR : Rect S512x512 := Rect.unit (s := S512x512) ![0, 0] S512x512.size inb_S512x512_S512x512_0_0

omit [FloatOps F] in
theorem read_x (f : (cc0_stg0_0 : Ref sig .tc).ty.Contents (Elt F)) : xM.view.readAt (Elt F) inR.toLoadRect f = f :=
  Memref.readAt_unit_zero (Elt F) cc0_stg0_0 hz _ f
omit [FloatOps F] in
theorem read_y (f : (cc0_stg1_0 : Ref sig .tc).ty.Contents (Elt F)) : yM.view.readAt (Elt F) inR.toLoadRect f = f :=
  Memref.readAt_unit_zero (Elt F) cc0_stg1_0 hz _ f

/-- One of the two copies: row `[0, j]` into the partner's row `[1, j]`, completing the send semaphore `ds` and the
    partner's receive semaphore `dr`; what is owed beyond the receive credit stays owed. -/
theorem wp_copy (c n : Dev nD) (hn : n = peer c) (j : ℕ) (h : RowIn 0 j) (h' : RowIn 1 j) (ds dr : DmaSem sig) (κ₁ κ₂ : ℕ)
    (hds : (Rd (F := F) m ρ).duties ((c : Thread nD τ), .dma ds) 0 = {()}) (hdr : (Rd (F := F) m ρ).duties ((peer c : Thread nD τ), .dma dr) 0 = {()})
    (has : (Rd (F := F) m ρ).amount ((c : Thread nD τ), .dma ds) 0 () = N) (har : (Rd (F := F) m ρ).amount ((peer c : Thread nD τ), .dma dr) 0 () = N)
    (hps : (Rd (F := F) m ρ).payload ((c : Thread nD τ), .dma ds) 0 () = rowPts 0 j h c (scrAll m ρ c))
    (hpr : (Rd (F := F) m ρ).payload ((peer c : Thread nD τ), .dma dr) 0 () = rowPts 1 j h' (peer c) (scrAll m ρ (peer c)))
    {hsc : (rowM 1 j h' : Memref sig (Dev.tc n : Thread nD τ).2.kind .vmem S512 .f32).view.ref.isScScratch = false}
    {hsrc : (rowM 0 j h).view.WordExact} {hdst : (rowM 1 j h').view.WordExact}
    {hsem : DmaTarget.Typed .vmem (.dma dr) (.remote (Dev.tc n : Thread nD τ) (rowM 1 j h') (.dma ds) hsc)}
    {α : Type} {Q : α → sProp 𝕄} {k : PUnit → Prog (TpuEff nD τ sig (Elt F) Λ₀ .tc) α}
    (fn : Scr F (peer c)) (O : CellTallies nD τ sig Unit) (W : Waits sig Unit) :
    iprop(cellInv ER (Rd m ρ) κ₁ ((c : Thread nD τ), .dma ds) ∗ cellInv ER (Rd m ρ) κ₂ ((peer c : Thread nD τ), .dma dr)
        ∗ rowPts 0 j h c (scrAll m ρ c) ∗ rowPts 1 j h' (peer c) fn
        ∗ owes (c : Thread nD τ) (O + tallyAt ((peer c : Thread nD τ), .dma dr) () N) W
        ∗ dutyTok ER ((c : Thread nD τ), .dma ds) 0 () ∗ reached ER ((c : Thread nD τ), .dma ds) 0
        ∗ dutyTok ER ((peer c : Thread nD τ), .dma dr) 0 () ∗ reached ER ((peer c : Thread nD τ), .dma dr) 0)
      ⊢ iprop(((cred (tallyAt ((c : Thread nD τ), .dma ds) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0 j h) (.remote (Dev.tc n : Thread nD τ) (rowM 1 j h') (.dma ds) hsc) (.dma dr) hsrc hdst hsem) k) Q) := by
  subst hn
  rw [← landed_row m ρ j h h' c fn] at hpr
  unfold rowPts at *
  have hN : (rowM 1 j h' : Memref sig (Dev.tc (peer c) : Thread nD τ).2.kind .vmem S512 .f32).view.amount (.dma dr) = N := rfl
  have h1 : () ∈ (Rd (F := F) m ρ).duties ((c : Thread nD τ), .dma ds) 0 := by rw [hds]; exact Finset.mem_singleton_self _
  have h2 : () ∈ (Rd (F := F) m ρ).duties ((peer c : Thread nD τ), .dma dr) 0 := by rw [hdr]; exact Finset.mem_singleton_self _
  have hr : τ.routes (c : Thread nD τ) (peer c : Thread nD τ) = true := by routes
  have p1 := Entails.of_eq hps.symm
  have p2 := Entails.of_eq hpr.symm
  exact Rounds.wp_send_pointsTo 𝒱₀ ER (Rd m ρ) (c : Thread nD τ) none (κ₁ := κ₁) (κ₂ := κ₂)
    (src := rowM 0 j h) (dst := rowM 1 j h') (c' := (peer c : Thread nD τ)) (hsrc := hsrc) (hdst := hdst) (hsem := hsem) (hsc := hsc)
    (r₁ := 0) (r₂ := 0) (d₁ := ()) (d₂ := ()) (fd := fn) (k := k) (Q := Q)
    h1 h2
    () () N hN has har O rfl (W := W) p1 p2 (Es := Set.univ) hr

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv ∗ ∃ f : Scr F c, (((c : Thread nD τ).loc cc0_scratch0) ↦{fullShare} f))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (ystg m ρ c) ∗ stg c cc0_stg2_0 (outAt m ρ c))

set_option maxHeartbeats 1600000 in
/-- The body on device `c`, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, wp_deviceId]
  unfold bodyPre ghost invs reaches payToks credits
  rw [bigSep_fin5, bigSep_fin5, bigSep_fin5, bigSep_fin5, bigSep_fin5]
  iintro ⟨⟨⟨⟨⟨⟨#HI0, #HI1, #HI2, #HI3, #HI4⟩, ⟨#HP0, #HP1, #HP2, #HP3, #HP4⟩⟩, ⟨⟨#HR0, #HR1, #HR2, #HR3, #HR4⟩, ⟨#HS0, #HS1, #HS2, #HS3, #HS4⟩⟩,
      ⟨Ha0, Ha1, Ha2, Ha3, Ha4⟩, ⟨Ht0, Ht1, Ht2, Ht3, Ht4⟩⟩, ⟨Hc0, Hc2, Hc4⟩, #Hlev, ⟨%f0, Hscr⟩⟩,
    Ho, ⟨%d0, %g0, %hg0, Hx⟩, ⟨%d1, %g1, %hg1, Hy⟩, ⟨%d2, %g2, %hg2, Hout⟩⟩, Hk⟩
  have hx : g0 = xstg m ρ c := by rw [hg0]; unfold Dat.before; rw [if_pos (fetch_0 t₀)]; rfl
  have hy : g1 = ystg m ρ c := by rw [hg1]; unfold Dat.before; rw [if_pos (fetch_1 t₀)]; rfl
  subst hx; subst hy
  unfold Dat.owesAt Pipeline.owesWithin
  icases Ho with ⟨%W, %hW, HO⟩
  rw [show (dats m ρ 0 c).owed t₀.castSucc = O₀ c from rfl]
  ihave Hrows := (scr_split (F := F) c f0).1 $$ Hscr
  icases Hrows with ⟨⟨⟨H00, H01⟩, H10⟩, H11⟩
  simp only [dev1_eq c]
  -- the signal: the partner may now fill the two receiving rows
  iapply (Rounds.wp_signal 𝒱₀ ER (Rd m ρ) (c : Thread nD τ) none (dst := (peer c : Thread nD τ)) (κ := K (peer c, 0))
      (d := ()) (by rw [duties_k m ρ (peer c) 0]; exact Finset.mem_univ _) ((amount_k m ρ (peer c) 0 ()).trans (by decide)) () (O₁ c) rfl)
    $$ [HO Ht0 H10 H11]
  · isplitr; · iexact HP0
    isplitl [HO]; · iexact HO
    isplitl [Ht0]; · iexact Ht0
    isplitl [H10 H11]
    · rw [payload_k m ρ (peer c) 0]; dsimp only [pay]; rw [peer_peer]
      isplitl [H11]; · iexists f0; iexact H11
      iexists f0; iexact H10
    · iexact HS0
  iintro HO
  iapply (wp_load 𝒱₀ (c : Thread nD τ) none Set.univ (m := xM) (Finset.subset_univ _)) $$ Hx; iintro Hx
  rw [read_x]
  iapply (wp_load 𝒱₀ (c : Thread nD τ) none Set.univ (m := yM) (Finset.subset_univ _)) $$ Hy; iintro Hy
  rw [read_y]
  -- the sum of `dy` into row `[0, 1]`
  unfold rowPts
  iapply (wp_load_rect 𝒱₀ (c : Thread nD τ) none Set.univ (m := sM) (r := rowR 0 1 h01) (subset_of_eq (access_set 0 1 h01))) $$ H01; iintro H01
  iapply (wp_store 𝒱₀ (c : Thread nD τ) none Set.univ (m := sM) (r := rowR 0 1 h01) (Mk := Finset.univ) (subset_of_eq (access_set 0 1 h01))) $$ H01; iintro H01
  -- the barrier: the partner's receiving rows
  iapply (Rounds.wp_wait_rest_token 𝒱₀ ER (Rd m ρ) (c : Thread nD τ) none (κ := K (c, 0))
      (wpE_semWait_eq 𝒱₀ (c : Thread nD τ) none Set.univ) (Set.mem_univ _) () (O := O₁ c) (W := W) (R := 0) (m := 0) (T := ∅)
      (by rw [expect_k m ρ c 0]; decide)) $$ [Hc0 HO Ha0]
  · isplitr; · iexact HI0
    isplitl [Hc0]; · iexact Hc0
    isplitl [HO]; · iexact HO
    isplitr; · iapply (mayWait_bar c); iexact Hlev
    iexact Ha0
  iintro ⟨HO, Ha0, -, Hpay⟩
  ihave Hp := (Entails.of_eq (rest_k m ρ c 0)) $$ Hpay
  dsimp only [pay]
  icases Hp with ⟨⟨%fb, HB⟩, ⟨%fg, HG⟩⟩
  ihave H01' := (Entails.of_eq (stored_row m ρ 1 h01 c f0)) $$ [H01]
  · unfold rowPts; iexact H01
  -- the first copy
  unfold O₁
  iapply (wp_copy m ρ c _ (dev2_eq c) 1 h01 h11 sendB recvB (K (c, 1)) (K (peer c, 2)) (duties_k m ρ c 1) (duties_k m ρ (peer c) 2)
      (amount_k m ρ c 1 ()) (amount_k m ρ (peer c) 2 ()) (payload_k m ρ c 1 ()) (payload_k m ρ (peer c) 2 ()) fb (tallyAt (kc (peer c) 4) () N) (insert (SemLoc.reg barS, ()) W))
    $$ [H01' HB HO Ht1 Ht2]
  · isplitr; · iexact HI1
    isplitr; · iexact HP2
    isplitl [H01']; · iexact H01'
    isplitl [HB]; · iexact HB
    isplitl [HO]; · iexact HO
    isplitl [Ht1]; · iexact Ht1
    isplitr; · iexact HR1
    isplitl [Ht2]; · iexact Ht2
    iexact HS2
  iintro ⟨Hc1, HO⟩
  -- the sum of `dy * x̂` into row `[0, 0]`
  unfold rowPts
  iapply (wp_load_rect 𝒱₀ (c : Thread nD τ) none Set.univ (m := sM) (r := rowR 0 0 h00) (subset_of_eq (access_set 0 0 h00))) $$ H00; iintro H00
  iapply (wp_store 𝒱₀ (c : Thread nD τ) none Set.univ (m := sM) (r := rowR 0 0 h00) (Mk := Finset.univ) (subset_of_eq (access_set 0 0 h00))) $$ H00; iintro H00
  ihave H00' := (Entails.of_eq (stored_row m ρ 0 h00 c f0)) $$ [H00]
  · unfold rowPts; iexact H00
  -- the second copy
  rw [← zero_add (tallyAt (kc (peer c) 4) () N)]
  iapply (wp_copy m ρ c _ (dev3_eq c) 0 h00 h10 sendG recvG (K (c, 3)) (K (peer c, 4)) (duties_k m ρ c 3) (duties_k m ρ (peer c) 4)
      (amount_k m ρ c 3 ()) (amount_k m ρ (peer c) 4 ()) (payload_k m ρ c 3 ()) (payload_k m ρ (peer c) 4 ()) fg 0 (insert (SemLoc.reg barS, ()) W))
    $$ [H00' HG HO Ht3 Ht4]
  · isplitr; · iexact HI3
    isplitr; · iexact HP4
    isplitl [H00']; · iexact H00'
    isplitl [HG]; · unfold rowPts; iexact HG
    isplitl [HO]; · iexact HO
    isplitl [Ht3]; · iexact Ht3
    isplitr; · iexact HR3
    isplitl [Ht4]; · iexact Ht4
    iexact HS4
  iintro ⟨Hc3, HO⟩
  -- the copies of the sum of `dy` are over
  iapply (Rounds.wp_wait_rest_token 𝒱₀ ER (Rd m ρ) (c : Thread nD τ) none (κ := K (c, 1))
      (wpE_waitDma2_eq 𝒱₀ (c : Thread nD τ) none Set.univ) (Set.mem_univ _) () (O := 0) (W := insert (SemLoc.reg barS, ()) W) (R := 0) (m := 0) (T := ∅)
      (by rw [Nat.zero_add, expect_k m ρ c 1]; rfl)) $$ [Hc1 HO Ha1]
  · isplitr; · iexact HI1
    isplitl [Hc1]; · iexact Hc1
    isplitl [HO]; · iexact HO
    isplitr; · rw [MayWait_zero]; iempintro
    iexact Ha1
  iintro ⟨HO, Ha1, -, Hpay⟩
  ihave H01 := (Entails.of_eq (rest_k m ρ c 1)) $$ Hpay
  iapply (Rounds.wp_wait_rest_token 𝒱₀ ER (Rd m ρ) (c : Thread nD τ) none (κ := K (c, 2))
      (wpE_waitDma2_eq 𝒱₀ (c : Thread nD τ) none Set.univ) (Set.mem_univ _) () (O := 0)
      (W := insert (SemLoc.dma sendB, ()) (insert (SemLoc.reg barS, ()) W)) (R := 0) (m := 0) (T := ∅)
      (by rw [Nat.zero_add, expect_k m ρ c 2]; rfl)) $$ [Hc2 HO Ha2]
  · isplitr; · iexact HI2
    isplitl [Hc2]; · iexact Hc2
    isplitl [HO]; · iexact HO
    isplitr; · rw [MayWait_zero]; iempintro
    iexact Ha2
  iintro ⟨HO, Ha2, -, Hpay⟩
  ihave H11 := (Entails.of_eq (rest_k m ρ c 2)) $$ Hpay
  dsimp only [pay]
  unfold rowPts
  -- row `1` of the result
  iapply (wp_load_rect 𝒱₀ (c : Thread nD τ) none Set.univ (m := sM) (r := rowR 0 1 h01) (subset_of_eq (access_set 0 1 h01))) $$ H01; iintro H01
  iapply (wp_load_rect 𝒱₀ (c : Thread nD τ) none Set.univ (m := sM) (r := rowR 1 1 h11) (subset_of_eq (access_set 1 1 h11))) $$ H11; iintro H11
  rw [read_row m ρ c 0 1 h01, read_row m ρ c 1 1 h11]
  iapply (wp_load 𝒱₀ (c : Thread nD τ) none Set.univ (m := oM) (Finset.subset_univ _)) $$ Hout; iintro Hout
  iapply (wp_store 𝒱₀ (c : Thread nD τ) none Set.univ (m := oM) (r := outR 1 inb_S2x512_S1x512_1_0) (Mk := Finset.univ) (Finset.subset_univ _)) $$ Hout; iintro Hout
  -- the copies of the other sum are over
  iapply (Rounds.wp_wait_rest_token 𝒱₀ ER (Rd m ρ) (c : Thread nD τ) none (κ := K (c, 3))
      (wpE_waitDma2_eq 𝒱₀ (c : Thread nD τ) none Set.univ) (Set.mem_univ _) () (O := 0)
      (W := insert (SemLoc.dma recvB, ()) (insert (SemLoc.dma sendB, ()) (insert (SemLoc.reg barS, ()) W))) (R := 0) (m := 0) (T := ∅)
      (by rw [Nat.zero_add, expect_k m ρ c 3]; rfl)) $$ [Hc3 HO Ha3]
  · isplitr; · iexact HI3
    isplitl [Hc3]; · iexact Hc3
    isplitl [HO]; · iexact HO
    isplitr; · rw [MayWait_zero]; iempintro
    iexact Ha3
  iintro ⟨HO, Ha3, -, Hpay⟩
  ihave H00 := (Entails.of_eq (rest_k m ρ c 3)) $$ Hpay
  iapply (Rounds.wp_wait_rest_token 𝒱₀ ER (Rd m ρ) (c : Thread nD τ) none (κ := K (c, 4))
      (wpE_waitDma2_eq 𝒱₀ (c : Thread nD τ) none Set.univ) (Set.mem_univ _) () (O := 0)
      (W := insert (SemLoc.dma sendG, ()) (insert (SemLoc.dma recvB, ()) (insert (SemLoc.dma sendB, ()) (insert (SemLoc.reg barS, ()) W)))) (R := 0) (m := 0) (T := ∅)
      (by rw [Nat.zero_add, expect_k m ρ c 4]; rfl)) $$ [Hc4 HO Ha4]
  · isplitr; · iexact HI4
    isplitl [Hc4]; · iexact Hc4
    isplitl [HO]; · iexact HO
    isplitr; · rw [MayWait_zero]; iempintro
    iexact Ha4
  iintro ⟨HO, Ha4, -, Hpay⟩
  ihave H10 := (Entails.of_eq (rest_k m ρ c 4)) $$ Hpay
  dsimp only [pay]
  unfold rowPts
  -- row `0` of the result
  iapply (wp_load_rect 𝒱₀ (c : Thread nD τ) none Set.univ (m := sM) (r := rowR 0 0 h00) (subset_of_eq (access_set 0 0 h00))) $$ H00; iintro H00
  iapply (wp_load_rect 𝒱₀ (c : Thread nD τ) none Set.univ (m := sM) (r := rowR 1 0 h10) (subset_of_eq (access_set 1 0 h10))) $$ H10; iintro H10
  rw [read_row m ρ c 0 0 h00, read_row m ρ c 1 0 h10]
  iapply (wp_load 𝒱₀ (c : Thread nD τ) none Set.univ (m := oM) (Finset.subset_univ _)) $$ Hout; iintro Hout
  iapply (wp_store 𝒱₀ (c : Thread nD τ) none Set.univ (m := oM) (r := outR 0 inb_S2x512_S1x512_0_0) (Mk := Finset.univ) (Finset.subset_univ _)) $$ Hout; iintro Hout
  -- every cell closes at zero
  imod (Rounds.cell_close ER (Rd m ρ) (Set.mem_univ (K (c, 0))) (fun h => h) (R := 0 + 1) (duties_later m ρ (kc c 0))) $$ [Ha0] with Hz0
  · isplitr; · iexact HI0
    iexact Ha0
  imod (Rounds.cell_close ER (Rd m ρ) (Set.mem_univ (K (c, 1))) (fun h => h) (R := 0 + 1) (duties_later m ρ (kc c 1))) $$ [Ha1] with Hz1
  · isplitr; · iexact HI1
    iexact Ha1
  imod (Rounds.cell_close ER (Rd m ρ) (Set.mem_univ (K (c, 2))) (fun h => h) (R := 0 + 1) (duties_later m ρ (kc c 2))) $$ [Ha2] with Hz2
  · isplitr; · iexact HI2
    iexact Ha2
  imod (Rounds.cell_close ER (Rd m ρ) (Set.mem_univ (K (c, 3))) (fun h => h) (R := 0 + 1) (duties_later m ρ (kc c 3))) $$ [Ha3] with Hz3
  · isplitr; · iexact HI3
    iexact Ha3
  imod (Rounds.cell_close ER (Rd m ρ) (Set.mem_univ (K (c, 4))) (fun h => h) (R := 0 + 1) (duties_later m ρ (kc c 4))) $$ [Ha4] with Hz4
  · isplitr; · iexact HI4
    iexact Ha4
  rw [wp_ret]; imodintro
  iapply Hk
  unfold bodyPost Φ₁ Dat.owesAt Pipeline.owesWithin
  rw [show (dats m ρ 0 c).owed t₀.succ = 0 from rfl, bigSep_fin5]
  isplitl [H00 H01 H10 H11 Hz0 Hz1 Hz2 Hz3 Hz4]
  · isplitl [H00 H01 H10 H11]
    · iexists (scrAll m ρ c)
      iapply (scr_split (F := F) c (scrAll m ρ c)).2
      unfold rowPts
      isplitr [H11]
      · isplitr [H10]
        · isplitl [H00]; · iexact H00
          iexact H01
        · iexact H10
      · iexact H11
    · isplitl [Hz0]; · iexact Hz0
      isplitl [Hz1]; · iexact Hz1
      isplitl [Hz2]; · iexact Hz2
      isplitl [Hz3]; · iexact Hz3
      iexact Hz4
  isplitl [HO]
  · iexists (insert (SemLoc.dma recvG, ()) (insert (SemLoc.dma sendG, ()) (insert (SemLoc.dma recvB, ()) (insert (SemLoc.dma sendB, ()) (insert (SemLoc.reg barS, ()) W)))))
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr
  · ipureintro; exact write_out m ρ c g2 inb_S2x512_S1x512_0_0 inb_S2x512_S1x512_1_0
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- What the pipeline asks of the body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hy, Hout⟩
  iapply (sound_body m ρ K c fun _ => bodyPost m ρ c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx]; · iexact Hx
    isplitl [Hy] <;> iassumption
  · iintro H; iexact H

end Body

end Cert.KernelIdealProof

end
-- ==== Proof.KernelIdealRun.lean ====
/-
# The run of the whole program

The four devices launched together: the cells are set up for all of them at once, the duty tokens of a device's barrier
and receive cells go to its partner, and the run ends with the result array of every device at `outAt` and every
counter at zero.
-/
module

public import proofs.«01_k».proof.Proof.KernelIdealBody
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## Setting up the cells -/

theorem kcell_injective : Function.Injective (kcell : Dev nD × Fin 5 → GSem nD τ sig) := fun a b h => by
  obtain ⟨h1, h2⟩ := kc_inj h
  exact Prod.ext h1 h2

def allCells : Finset (GSem nD τ sig) := Finset.univ.map ⟨kcell, kcell_injective⟩

theorem tok_injective : Function.Injective (fun ck : Dev nD × Fin 5 => ((kcell ck, 0, ()) : GSem nD τ sig × ℕ × Unit)) :=
  fun a b h => kcell_injective (congrArg Prod.fst h)
def allToks : Finset (GSem nD τ sig × ℕ × Unit) := Finset.univ.map ⟨_, tok_injective⟩

def u₀ : UU :=
  (initOf (Pipeline.cells cfgs cellOf_inj) (Pipeline.launchToks cfgs cellOf_inj), initOf allCells allToks)

/-- The duty tokens of device `c`'s own cells. -/
def toks (c : Dev nD) : sProp 𝕄 := bigSep Finset.univ fun k : Fin 5 => dutyTok ER (kc c k) 0 ()

/-- What each device is dealt of the exchange's resources. -/
def G (c : Dev nD) : sProp 𝕄 :=
  iprop((bigSep Finset.univ fun k : Fin 5 => roundState ER (Rd m ρ) (kc c k) 0)
    ∗ (bigSep Finset.univ fun k : Fin 5 => iprop(atPos ER (kc c k) 0 ∅ 0 ∗ reached ER (kc c k) 0)) ∗ toks c)

/-- What it holds once the cells are set up. -/
def G' (c : Dev nD) : sProp 𝕄 := iprop(∃ K, ghost m ρ K c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 5 => Φ (kc c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (kc c 1) 0 ∗ semVal (kc c 2) 0 ∗ semVal (kc c 3) 0 ∗ semVal (kc c 4) 0) := by
  rw [Pipeline.ownSems0_eq_of_list c osem [0, 1, 2, 3] (by decide) (by decide)]; rfl
omit [FloatOps F] in
theorem unscopedSems0_eq (c : Dev nD) : (unscopedSems0 c : sProp 𝕄) = semVal (kc c 0) 0 := by
  unfold unscopedSems0; rw [bigSep_eq_bigSepL_of_eq [SemLoc.reg barS] (by decide) (by decide)]; rfl

omit [FloatOps F] in
/-- The five counters of a device are its own four and the barrier's. -/
theorem sems0_eq (c : Dev nD) :
    (bigSep Finset.univ fun k : Fin 5 => semVal (kc c k) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_fin5]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kc c k)))
          ∗ (bigSep Finset.univ fun k => iprop(atPos ER (kc c k) 0 ∅ 0 ∗ reached ER (kc c k) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 5 => semVal (kc c k) 0) ∗ bigSep Finset.univ fun k : Fin 5 => roundState ER (Rd m ρ) (kc c k) 0)
      ⊢ (|={Set.univ}=> bigSep Finset.univ fun k => iprop(∃ κ : ℕ, cellInv ER (Rd m ρ) κ (kc c k)) : sProp 𝕄) from by
        rw [← bigSep_sep']
        exact (bigSep_mono fun k _ => (Rounds.body_intro ER (Rd m ρ) (kc c k)).trans inv_alloc).trans (bigSep_fupd _ _)) $$ [Hv Hst] with Hinv
  · isplitl [Hv] <;> iassumption
  imodintro
  isplitl [Hinv]; · iexact Hinv
  isplitl [Hat]; · iexact Hat
  iexact Htok

/-- What every device may know: the invariants of all cells, and that all are in their round. -/
def records (K : Dev nD × Fin 5 → ℕ) : sProp 𝕄 :=
  iprop((bigSep Finset.univ fun c : Dev nD => bigSep Finset.univ fun k : Fin 5 => cellInv ER (Rd m ρ) (K (c, k)) (kc c k))
    ∗ bigSep Finset.univ fun c : Dev nD => bigSep Finset.univ fun k : Fin 5 => reached ER (kc c k) 0)

instance records_persistent (K : Dev nD × Fin 5 → ℕ) : BI.Persistent (records m ρ K) := by unfold records; infer_instance

/-- What stays with device `c`: its positions and the tokens of the duties it pays. -/
def linear (c : Dev nD) : sProp 𝕄 := iprop((bigSep Finset.univ fun k : Fin 5 => atPos ER (kc c k) 0 ∅ 0) ∗ payToks c)

theorem ghost_intro (K : Dev nD × Fin 5 → ℕ) (c : Dev nD) : iprop(records m ρ K ∗ linear c) ⊢ G' m ρ c := by
  have e (d : Dev nD) : (bigSep Finset.univ fun c : Dev nD => bigSep Finset.univ fun k : Fin 5 => (cellInv ER (Rd m ρ) (K (c, k)) (kc c k) : sProp 𝕄))
      ⊢ bigSep Finset.univ fun k : Fin 5 => cellInv ER (Rd m ρ) (K (d, k)) (kc d k) := bigSep_elim (Finset.mem_univ d)
  have e' (d : Dev nD) : (bigSep Finset.univ fun c : Dev nD => bigSep Finset.univ fun k : Fin 5 => (reached ER (kc c k) 0 : sProp 𝕄))
      ⊢ bigSep Finset.univ fun k : Fin 5 => reached ER (kc d k) 0 := bigSep_elim (Finset.mem_univ d)
  unfold records linear G' ghost invs reaches
  iintro ⟨⟨#HI, #HR⟩, Ha, Ht⟩
  iexists K
  isplitr
  · isplitr
    · iapply (e c); iexact HI
    · iapply (e (peer c)); iexact HI
  isplitr
  · isplitr
    · iapply (e' c); iexact HR
    · iapply (e' (peer c)); iexact HR
  isplitl [Ha] <;> iassumption

omit [FloatOps F] in
/-- The tokens of a device's barrier and receive cells go to its partner, those of its send cells stay. -/
theorem toks_around : (bigSep Finset.univ fun c : Dev nD => (toks c : sProp 𝕄)) ⊢ bigSep Finset.univ fun c : Dev nD => payToks c := by
  unfold toks payToks
  simp only [bigSep_fin5]
  simp only [bigSep_sep']
  refine Entails.of_eq ?_
  rw [bigSep_univ_equiv swap (fun c : Dev nD => (dutyTok ER (kc c 0) 0 () : sProp 𝕄)),
    bigSep_univ_equiv swap (fun c : Dev nD => (dutyTok ER (kc c 2) 0 () : sProp 𝕄)),
    bigSep_univ_equiv swap (fun c : Dev nD => (dutyTok ER (kc c 4) 0 () : sProp 𝕄))]
  rfl

omit [FloatOps F] in
/-- A persistent proposition is at hand for every member of a family. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kc c k)))
          ∗ (bigSep Finset.univ fun k => iprop(atPos ER (kc c k) 0 ∅ 0 ∗ reached ER (kc c k) 0)) ∗ toks c) : sProp 𝕄)
      ⊢ bigSep Finset.univ (G' m ρ) := by
  rw [bigSep_sep', bigSep_sep', ← bigSep_univ_prod (fun ck : Dev nD × Fin 5 => iprop(∃ κ : ℕ, cellInv ER (Rd m ρ) κ (kcell ck))),
    bigSep_congr (s := Finset.univ) (fun (c : Dev nD) _ => bigSep_sep' Finset.univ (fun k : Fin 5 => (atPos ER (kc c k) 0 ∅ 0 : sProp 𝕄)) (fun k => reached ER (kc c k) 0)),
    bigSep_sep']
  iintro ⟨HI, ⟨Hat, #HR⟩, Htok⟩
  ihave HK := (BI.bigSep_exists_pi Finset.univ (fun (ck : Dev nD × Fin 5) (κ : ℕ) => (cellInv ER (Rd m ρ) κ (kcell ck) : sProp 𝕄))) $$ HI
  icases HK with ⟨%K, HI⟩
  ihave HI' := (Entails.of_eq (bigSep_univ_prod (fun ck : Dev nD × Fin 5 => (cellInv ER (Rd m ρ) (K ck) (kcell ck) : sProp 𝕄)))) $$ HI
  icases HI' with #HI
  ihave Htk := (toks_around (F := F)) $$ Htok
  iapply (bigSep_with (R := records m ρ K) fun c _ => ghost_intro m ρ K c)
  isplitr
  · unfold records; isplitl; · iexact HI
    iexact HR
  · unfold linear
    rw [bigSep_sep']
    isplitl [Hat]; · iexact Hat
    iexact Htk

/-- The set-up of all cells at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits of the launch -/

/-- Device `d` owes cell `k` of device `c` when `d` is `c`'s partner. -/
theorem tally_peer (d c : Dev nD) (j k : Fin 5) (n : ℕ) :
    (tallyAt (kc (peer d) j) () n : CellTallies nD τ sig Unit) (kc c k) () = if d = peer c then (if j = k then n else 0) else 0 := by
  rw [tallyAt_apply]
  by_cases h : kc c k = kc (peer d) j
  · obtain ⟨rfl, rfl⟩ := kc_inj h
    rw [if_pos ⟨rfl, rfl⟩, peer_peer, if_pos rfl, if_pos rfl]
  · rw [if_neg fun h' => h h'.1]
    by_cases hd : d = peer c
    · subst hd
      rw [if_pos rfl, if_neg]
      rintro rfl; exact h (by rw [peer_peer])
    · rw [if_neg hd]

/-- What is owed to cell `k` of a device. -/
def owedK : Fin 5 → ℕ := fun | 0 => 1 | 1 => 0 | 2 => N | 3 => 0 | 4 => N

theorem owed_k (d c : Dev nD) (k : Fin 5) : O₀ d (kc c k) () = if d = peer c then owedK k else 0 := by
  unfold O₀ O₁
  rw [Pi.add_apply, Finsupp.add_apply, Pi.add_apply, Finsupp.add_apply, tally_peer, tally_peer, tally_peer]
  by_cases h : d = peer c
  · simp only [if_pos h]
    fin_cases k <;> simp [owedK]
  · simp only [if_neg h]

theorem launch_k (c : Dev nD) (k : Fin 5) :
    tallyOn (kc c k) (launchCredit (Pipeline.owing O₀) 0 (kc c k)) = (tallyAt (kc c k) () (owedK k) : CellTallies nD τ sig Unit) := by
  unfold tallyAt; refine congrArg _ (Finsupp.ext fun u => ?_); cases u
  rw [Pipeline.launchCredit_owing, Finsupp.single_eq_same, Finset.sum_congr rfl fun d _ => owed_k d c k, Finset.sum_ite_eq' Finset.univ (peer c) fun _ => owedK k,
    if_pos (Finset.mem_univ _)]

omit [FloatOps F] in
theorem creds (c : Dev nD) : (Pipeline.launchCred O₀ c : sProp 𝕄) ⊢ credits c := by
  have e0 : (tallyAt (kc c 0) () 1 : CellTallies nD τ sig Unit) = _ := (launch_k c 0).symm
  have e2 : (tallyAt (kc c 2) () N : CellTallies nD τ sig Unit) = _ := (launch_k c 2).symm
  have e4 : (tallyAt (kc c 4) () N : CellTallies nD τ sig Unit) = _ := (launch_k c 4).symm
  unfold Pipeline.launchCred credits
  rw [e0, e2, e4, bigSep_univ_at _ (csem 0)]
  refine sep_mono_right ?_
  refine (Entails.of_eq (BI.bigSep_erase (Finset.mem_erase.mpr ⟨(by decide : csem 2 ≠ csem 0), Finset.mem_univ _⟩))).trans (sep_mono_right ?_)
  exact bigSep_elim (Finset.mem_erase.mpr ⟨(by decide : csem 4 ≠ csem 2), Finset.mem_erase.mpr ⟨(by decide : csem 4 ≠ csem 0), Finset.mem_univ _⟩⟩)

/-! ## The run -/

/-- The buffer of `gamma`, which no window reads. -/
def rest (c : Dev nD) : sProp 𝕄 := (((c : Thread nD τ).loc main_arg2) ↦{fullShare} m ((c : Thread nD τ).loc main_arg2))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ rest m c) := by
  rw [Pipeline.unscopedRestP_none, unscopedRest0_eq]
  iintro ⟨Hr, Hlev, Hcr, -, HG⟩
  ihave Hc := (creds (F := F) c) $$ Hcr
  imodintro
  unfold start G' rest
  isplitr [Hr]
  · isplitl [HG]; · iexact HG
    isplitl [Hc]; · iexact Hc
    iexact Hlev
  · iexact Hr

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [sems0_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by intro u; fin_cases w <;> fin_cases s <;> rfl) _ (by
      rcases t with ⟨_ | _, ht⟩
      · exact Or.inl rfl
      · exact Or.inr rfl)

/-- What each array a window moves holds at the end. -/
def finalA (c : Dev nD) (w : Fin cfg0.W) : Buf (Elt F) ((cfg0.win w).arr.view.loc (c : Thread nD τ)) := (dats m ρ 0 c).arrAt w cfg0.N

omit [FloatOps F] in
/-- The memory holds what a buffer is owned at. -/
theorem rest_read (c : Dev nD) (s' : Phys nD τ sig (Elt F)) :
    iprop(rest m c ∗ SI s') ⊢ (iprop(⌜s'.mem.mem ((c : Thread nD τ).loc main_arg2) = m ((c : Thread nD τ).loc main_arg2)⌝ ∗ SI s') : sProp 𝕄) := by
  unfold rest
  iintro ⟨Hi, HSI⟩
  icombine HSI Hi gives %h
  isplitr
  · ipureintro; exact Buf.eq_of_forall_mem_univ h
  · iexact HSI

/-- The end of the run: the windows' arrays, the buffer of `gamma` unchanged. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2)

set_option maxRecDepth 8000 in
/-- From any memory with zero counters every fair run of the four devices ends; then every device's arrays hold what was
    computed, `gamma` is unchanged and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := rest m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2))
    (hY := fun c s' => by
      iintro ⟨Hu, Hr, HSI⟩
      ihave H := (rest_read (F := F) m c s') $$ [Hr HSI]
      · isplitl [Hr] <;> iassumption
      icases H with ⟨%hr, HSI⟩
      imod (Pipeline.unscopedSems0_read (X := unscopedSems0 c) (c := c) fupd_intro s') $$ [Hu HSI] with ⟨%hu, HSI⟩
      · isplitl [Hu] <;> iassumption
      imodintro
      isplitr
      · ipureintro; exact ⟨hu, hr⟩
      · iexact HSI)
    (hQ := fun _ h hs => ⟨fun c => ⟨fun w => (h c).1 w, (h c).2.2.2⟩, sem_eq_zero hs fun c => (h c).2.2.1⟩)

end Cert.KernelIdealProof

end
-- ==== Proof.KernelIdealEnd.lean ====
/-
# What the arrays hold at the end

The one grid point stages the whole blocks of `x` and `dy` and writes the whole result array back. So the run ends with
`x`, `dy` and `gamma` as they were and the result array at what the body left in its buffer.
-/
module

public import proofs.«01_k».proof.Proof.KernelIdealRun
public import proofs.«01_k».proof.Proof.Gen.KernelIdeal.Points
public import Idealize.ShloMosaic.Lib.Pipeline.ValueKit

@[expose] public section

noncomputable section

namespace Cert.KernelIdealProof

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The blocks of `x` and `dy` at the one grid point start at the origin. -/
theorem idx : win0_0.index (0 : Fin 1) = ![0, 0] ∧ win0_1.index (0 : Fin 1) = ![0, 0] := by decide +kernel

/-- The block of `x` that a device stages is its whole array. -/
theorem xstg_eq (c : Dev nD) : xstg m ρ c = m ((c : Thread nD τ).loc main_arg0) := by
  unfold xstg s₀
  funext i
  blk_ext [idx]

/-- The block of `dy` that a device stages is its whole array. -/
theorem ystg_eq (c : Dev nD) : ystg m ρ c = m ((c : Thread nD τ).loc main_arg1) := by
  unfold ystg s₀
  funext i
  blk_ext [idx]

/-- The result array ends at what the body left in its buffer. -/
theorem final_out (c : Dev nD) : finalA m ρ c (2 : Fin 3) = outAt m ρ c := by
  refine (dats m ρ 0 c).arrAt_eq_of_after_last (2 : Fin 3) t0_0 (by decide +kernel) _ fun j => ?_
  blk_simp
  rfl

/-- Every fair run from zero counters ends with the result at `outAt` on every device, the arguments unchanged, and every
    counter zero. -/
theorem ran : θ_run defs (onTc (τ := τ) (main (F := F))) ⟨m, fun _ => 0, ρ⟩ fun r =>
    (∀ c : Dev nD, r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 :=
  (θ_run defs _ _).mono (fun _ h => ⟨fun c =>
      ⟨((h.1 c).1 (2 : Fin 3)).trans (final_out m ρ c),
       ((h.1 c).1 (0 : Fin 3)).trans ((dats m ρ 0 c).arrAt_in (0 : Fin 3) rfl _),
       ((h.1 c).1 (1 : Fin 3)).trans ((dats m ρ 0 c).arrAt_in (1 : Fin 3) rfl _),
       (h.1 c).2⟩, h.2⟩) (run_main m ρ)

end Cert.KernelIdealProof

end
-- ==== Proof.LayerNorm.lean ====
/-
# The mathematics of one normalised row

A row of 512 numbers is normalised: its mean is taken away and the rest is divided by the root of the variance plus a
small constant. The variance is written in two ways, as the mean of the squares less the square of the mean and as the
mean of the squared distances from the mean. On a row of real numbers the two agree, and both normalised rows are the
real number `norm`.
-/
module

public import Idealize.ShloMosaic.PureOps.Ideal.Laws
public import Mathlib.Analysis.SpecialFunctions.Pow.Real

@[expose] public section

noncomputable section

namespace Cert.LayerNorm

open Idealize.ShloMosaic

/-- The mean of a row. -/
def mean (r : Fin 512 → ℝ) : ℝ := (∑ k, r k) / 512

/-- The variance of a row: the mean of the squared distances from the mean. -/
def var (r : Fin 512 → ℝ) : ℝ := (∑ k, (r k - mean r) * (r k - mean r)) / 512

/-- The variance is the mean of the squares less the square of the mean. -/
theorem var_eq (r : Fin 512 → ℝ) : var r = (∑ k, r k * r k) / 512 - mean r * mean r := by
  have h : ∑ k, (r k - mean r) * (r k - mean r) = (∑ k, r k * r k) - 2 * mean r * (∑ k, r k) + 512 * (mean r * mean r) := by
    have e : ∀ k, (r k - mean r) * (r k - mean r) = r k * r k - 2 * mean r * r k + mean r * mean r := fun k => by ring
    simp only [e, Finset.sum_add_distrib, Finset.sum_sub_distrib, ← Finset.mul_sum, Finset.sum_const, Finset.card_univ,
      Fintype.card_fin, nsmul_eq_mul]
    ring
  have hs : ∑ k, r k = 512 * mean r := by unfold mean; ring
  unfold var; rw [h, hs]; ring

/-- The variance is not negative. -/
theorem var_nonneg (r : Fin 512 → ℝ) : 0 ≤ var r :=
  div_nonneg (Finset.sum_nonneg fun k _ => mul_self_nonneg _) (by norm_num)

/-- The small constant under the root. -/
def eps : ℝ := 2748779 / 274877906944

theorem eps_pos : 0 < eps := by unfold eps; norm_num

/-- The entry `k` of the normalised row. -/
def norm (r : Fin 512 → ℝ) (k : Fin 512) : ℝ := (r k - mean r) * (Real.sqrt (var r + eps))⁻¹

theorem under_pos (r : Fin 512 → ℝ) : 0 < var r + eps := add_pos_of_nonneg_of_pos (var_nonneg r) eps_pos

theorem root_pos (r : Fin 512 → ℝ) : 0 < Real.sqrt (var r + eps) := Real.sqrt_pos.mpr (under_pos r)

/-- The word of 512. -/
theorem ofBits_512 : Ideal.ofBits .f32 0x44000000#32 = ((512 : ℝ) : EReal) := by
  simp [Ideal.ofBits, Ideal.ieee]; rw [← EReal.coe_mul]; norm_num

/-- The word of the small constant. -/
theorem ofBits_eps : Ideal.ofBits .f32 0x3727C5AC#32 = (eps : EReal) := by
  simp [Ideal.ofBits, Ideal.ieee, eps]; rw [← EReal.coe_mul]; norm_num

/-- A sum of reals, taken in the extended reals. -/
theorem coe_sum (f : Fin 512 → ℝ) : ∑ k, (f k : EReal) = ((∑ k, f k : ℝ) : EReal) :=
  (map_sum (⟨⟨Real.toEReal, rfl⟩, EReal.coe_add⟩ : ℝ →+ EReal) f Finset.univ).symm

/-- The quotient by a real that is not zero. -/
theorem div_coe (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

/-- With the variance as the mean of the squares less the square of the mean and a reciprocal root. -/
theorem norm_of_squares (r : Fin 512 → ℝ) (k : Fin 512) :
    ((r k : EReal) - Ideal.div (∑ k, (r k : EReal)) (Ideal.ofBits .f32 0x44000000#32)) *
      Ideal.rsqrt (Ideal.div (∑ k, (r k : EReal) * (r k : EReal)) (Ideal.ofBits .f32 0x44000000#32)
        - Ideal.div (∑ k, (r k : EReal)) (Ideal.ofBits .f32 0x44000000#32) * Ideal.div (∑ k, (r k : EReal)) (Ideal.ofBits .f32 0x44000000#32)
        + Ideal.ofBits .f32 0x3727C5AC#32) = (norm r k : EReal) := by
  simp only [ofBits_512, ofBits_eps, ← EReal.coe_mul, coe_sum, div_coe _ (by norm_num : (512 : ℝ) ≠ 0), ← EReal.coe_sub, ← EReal.coe_add]
  rw [show (∑ k, r k * r k) / 512 - (∑ k, r k) / 512 * ((∑ k, r k) / 512) = var r from (var_eq r).symm]
  rw [Ideal.rsqrt_coe, if_neg (under_pos r).not_gt, if_neg (under_pos r).ne', ← EReal.coe_mul]
  rfl

/-- With the variance as the mean of the squared distances and the reciprocal of a root. -/
theorem norm_of_distances (r : Fin 512 → ℝ) (k : Fin 512) :
    ((r k : EReal) - Ideal.div (∑ k, (r k : EReal)) (Ideal.ofBits .f32 0x44000000#32)) *
      Ideal.div 1 (Ideal.sqrt (Ideal.div (∑ k, ((r k : EReal) - Ideal.div (∑ k, (r k : EReal)) (Ideal.ofBits .f32 0x44000000#32))
          * ((r k : EReal) - Ideal.div (∑ k, (r k : EReal)) (Ideal.ofBits .f32 0x44000000#32))) (Ideal.ofBits .f32 0x44000000#32)
        + Ideal.ofBits .f32 0x3727C5AC#32)) = (norm r k : EReal) := by
  simp only [ofBits_512, ofBits_eps, ← EReal.coe_mul, coe_sum, div_coe _ (by norm_num : (512 : ℝ) ≠ 0), ← EReal.coe_sub, ← EReal.coe_add]
  rw [show (∑ k, (r k - (∑ k, r k) / 512) * (r k - (∑ k, r k) / 512)) / 512 = var r from rfl]
  rw [Ideal.sqrt_coe, if_neg (under_pos r).not_gt, ← EReal.coe_one, div_coe _ (root_pos r).ne', ← EReal.coe_mul, one_div]
  rfl

end Cert.LayerNorm

end
-- ==== Proof.KernelValue.lean ====
/-
# The value of the kernel

Over the extended reals, with every entry of `x` real, the two sums of one device are read entry by entry: the sum over
its rows of `dy` times the normalised entry of `x`, and the sum of `dy`. The result array adds those of the device and
its partner.
-/
module

public import proofs.«01_k».proof.Proof.KernelIdealEnd
public import proofs.«01_k».proof.Proof.LayerNorm
public import Idealize.ShloMosaic.Lib.Pointwise

@[expose] public section

noncomputable section

namespace Cert.KernelIdealProof

open Cert.KernelIdeal Cert.KernelIdeal.Gen Cert.LayerNorm
open Idealize.ShloMosaic Idealize.ShloMosaic.TcCoe Idealize.SL.Sem

set_option maxRecDepth 16384

/-- The sum of the rows of one block of `dy`. -/
theorem pay4_apply (y : Vec Ideal S512x512 .f32) (l : Fin 512) : k0_pay4 y (ix3 0 0 l) = ∑ k : Fin 512, y (ix2 k l) := by
  pointwise [k0_pay4, k0_pay3]

/-- The sum over the rows of one block of `dy` times the normalised rows of real numbers. -/
theorem pay5_apply (x y : Vec Ideal S512x512 .f32) (r : Fin 512 → Fin 512 → ℝ) (hx : ∀ k l, x (ix2 k l) = (r k l : EReal))
    (l : Fin 512) : k0_pay5 (k0_pay2 x) (k0_pay3 y) (ix3 0 0 l) = ∑ k : Fin 512, y (ix2 k l) * (norm (r k) l : EReal) := by
  pointwise [k0_pay5, k0_pay2, k0_pay3]
  refine Finset.sum_congr rfl fun k _ => congrArg (y (ix2 k l) * ·) ?_
  simp only [hx]
  exact norm_of_squares (r k) l

/-- Two sums added. -/
theorem pay1_apply (v w : Vec Ideal S1x1x512 .f32) (l : Fin 512) : k0_pay1 v w (ix2 0 l) = v (ix3 0 0 l) + w (ix3 0 0 l) := by
  pointwise [k0_pay1]

/-- Two sums added. -/
theorem pay6_apply (v w : Vec Ideal S1x1x512 .f32) (l : Fin 512) : k0_pay6 v w (ix2 0 l) = v (ix3 0 0 l) + w (ix3 0 0 l) := by
  pointwise [k0_pay6]

variable (m : (ℓ : Loc nD τ sig) → Buf (Elt Ideal) ℓ) (ρ : Dev nD → PrngReg)

/-- The array of `x` on a device. -/
def xarr (c : Dev nD) : FVec Ideal S512x512 .f32 := m ((c : Thread nD τ).loc main_arg0)
/-- The array of `dy` on a device. -/
def yarr (c : Dev nD) : FVec Ideal S512x512 .f32 := m ((c : Thread nD τ).loc main_arg1)

/-- The place in a row of an index of the result. -/
theorem laneO_ix2 (i : Fin 2) (l : Fin 512) : laneO (ix2 i l) = ix2 0 l := by
  funext a; fin_cases a <;> rfl

/-- Row 0 of the result: the sums of `dy` times the normalised `x`, of the device and of its partner, added. -/
theorem outAt_zero (r : Dev nD → Fin 512 → Fin 512 → ℝ) (hx : ∀ c k l, xarr m c (ix2 k l) = (r c k l : EReal))
    (c : Dev nD) (l : Fin 512) :
    (outAt m ρ c : Vec Ideal S2x512 .f32) (ix2 0 l)
      = (∑ k : Fin 512, yarr m c (ix2 k l) * (norm (r c k) l : EReal))
        + ∑ k : Fin 512, yarr m (peer c) (ix2 k l) * (norm (r (peer c) k) l : EReal) := by
  have e : (outAt m ρ c : Vec Ideal S2x512 .f32) (ix2 0 l) = k0_pay1 (rowv m ρ c 0) (rowv m ρ (peer c) 0) (laneO (ix2 0 l)) := if_pos rfl
  have v (c : Dev nD) : rowv m ρ c 0 = k0_pay5 (k0_pay2 (xarr m c)) (k0_pay3 (yarr m c)) := by
    unfold rowv xarr yarr; rw [if_pos rfl, xstg_eq, ystg_eq]
  rw [e, laneO_ix2, pay1_apply, v, v, pay5_apply _ _ (r c) (hx c), pay5_apply _ _ (r (peer c)) (hx (peer c))]

/-- Row 1 of the result: the sums of `dy`, of the device and of its partner, added. -/
theorem outAt_one (c : Dev nD) (l : Fin 512) :
    (outAt m ρ c : Vec Ideal S2x512 .f32) (ix2 1 l)
      = (∑ k : Fin 512, yarr m c (ix2 k l))
        + ∑ k : Fin 512, yarr m (peer c) (ix2 k l) := by
  have e : (outAt m ρ c : Vec Ideal S2x512 .f32) (ix2 1 l) = k0_pay6 (rowv m ρ c 1) (rowv m ρ (peer c) 1) (laneO (ix2 1 l)) := if_neg Nat.one_ne_zero
  have v (c : Dev nD) : rowv m ρ c 1 = k0_pay4 (yarr m c) := by
    unfold rowv yarr; rw [if_neg Nat.one_ne_zero, ystg_eq]
  rw [e, laneO_ix2, pay6_apply, v, v, pay4_apply, pay4_apply]

end Cert.KernelIdealProof

end
-- ==== Proof.ReferenceValue.lean ====
/-
# The value of the reference

The reference's operations, composed, read entry by entry over the extended reals with every entry of `x` real: in row
0 the sum over all 1024 rows of `dy` times the normalised entry of `x`, in row 1 the sum of `dy`. The reference ends
with every counter zero, since it has none.
-/
module

public import proofs.«01_k».proof.Proof.Gen.ReferenceIdeal.Run
public import proofs.«01_k».proof.Proof.LayerNorm
public import Idealize.ShloMosaic.Lib.Pointwise
public import Idealize.ShloMosaic.Lib.Quiescent

@[expose] public section

noncomputable section

namespace Cert.ReferenceIdealProof

open Cert.ReferenceIdeal Cert.ReferenceIdeal.Gen Cert.ReferenceIdeal.Facts Cert.LayerNorm
open Idealize.ShloMosaic Idealize.ShloMosaic.TcCoe Idealize.SL.Sem

/-- An array of 1024 rows. -/
abbrev A := FVec Idealize.ShloMosaic.Ideal S1024x512 .f32
/-- One number for each of 1024 rows. -/
abbrev C := FVec Idealize.ShloMosaic.Ideal S1024x1 .f32

/-- A number, on every row. -/
def num (b : BitVec 32) : C := broadcastInDim S1024x1 ![] bcast_S_S1024x1 (constant S_ .f32 b)
/-- A column, in every place of its rows. -/
def wide (v : C) : A := broadcastInDim S1024x512 ![0, 1] bcast_S1024x1_S1024x512_0_1 v
/-- The sums of the rows. -/
def sums (x : A) : C :=
  broadcastInDim S1024x1 ![0] bcast_S1024_S1024x1_0 (Host.reduceAdd x (constant S_ .f32 0x00000000#32) reducesTo_S1024x512_S1024_d1 h_S_)
/-- The rows less their means. -/
def dist (x : A) : A := subf x (wide (Host.divf (sums x) (num 0x44000000#32)))
/-- The number of summands of a variance: 512 less the integer 0. -/
def count : FVec Idealize.ShloMosaic.Ideal S_ .f32 := subf (constant S_ .f32 0x44000000#32) (sitofp .f32 (constantI S_ 32 0#32))
/-- The variances of the rows, where the number of summands is above zero. -/
def vars (x : A) : C :=
  select (broadcastInDim S1024x1 ![] bcast_S_S1024x1 (cmpf .ogt count (constant S_ .f32 0x00000000#32)))
    (Host.divf (sums (mulf (dist x) (dist x))) (broadcastInDim S1024x1 ![] bcast_S_S1024x1 count))
    (broadcastInDim S1024x1 ![] bcast_S_S1024x1 (id (constant S_ .f32 0x7FC00000#32)))
/-- The normalised rows. -/
def normed (x : A) : A :=
  mulf (dist x) (wide (Host.divf (num 0x3F800000#32) (Host.sqrt (addf (vars x) (num 0x3727C5AC#32)))))
/-- The sum of all rows, as one row. -/
def total (x : A) : FVec Idealize.ShloMosaic.Ideal S1x512 .f32 :=
  broadcastInDim S1x512 ![1] bcast_S512_S1x512_1 (Host.reduceAdd x (constant S_ .f32 0x00000000#32) reducesTo_S1024x512_S512_d0 h_S_)
/-- The result of the reference. -/
def out (x y : A) : FVec Idealize.ShloMosaic.Ideal S2x512 .f32 :=
  concatenate S2x512 0 [⟨S1x512, total (mulf y (normed x))⟩, ⟨S1x512, total y⟩] concatenates_S1x512_S1x512_S2x512_d0

/-- Every fair run of the reference from zero counters ends with the result at `out` of the arguments, the arguments
    unchanged, and every counter zero. -/
theorem ran (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r =>
    (∀ c : Dev nD, r.2.mem ((c.tc : Thread nD τ).loc main_v19) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0 :=
  (θ_run defs _ _).mono (fun r h => ⟨h, sem_eq_zero_of_no_sems rfl r.2⟩) (Cert.ReferenceIdeal.Value.run m ρ)

set_option maxRecDepth 16384

/-- The number of summands is 512. -/
theorem count_apply : count ix0 = Ideal.ofBits .f32 0x44000000#32 := by
  have h : FloatOps.sitofp (F := Idealize.ShloMosaic.Ideal) .f32 (0#32) = (0 : EReal) := by
    show (((0#32 : BitVec 32).toInt : ℝ) : EReal) = 0
    norm_num
  show Ideal.ofBits .f32 0x44000000#32 - FloatOps.sitofp (F := Idealize.ShloMosaic.Ideal) .f32 (0#32) = _
  rw [h, sub_zero]

/-- The variance is taken, since 512 is above zero. -/
theorem vars_apply (x : A) (k : Fin 1024) : vars x (ix2 k 0) =
    Ideal.div (∑ l : Fin 512, dist x (ix2 k l) * dist x (ix2 k l)) (Ideal.ofBits .f32 0x44000000#32) := by
  pointwise [vars, sums]
  rw [count_apply, if_pos (by rw [ofBits_512]; exact_mod_cast (by norm_num : (0 : ℝ) < 512))]

/-- An entry less the mean of its row. -/
theorem dist_apply (x : A) (k : Fin 1024) (l : Fin 512) : dist x (ix2 k l) =
    x (ix2 k l) - Ideal.div (∑ l : Fin 512, x (ix2 k l)) (Ideal.ofBits .f32 0x44000000#32) := by
  pointwise [dist, wide, sums, num]

/-- An entry of the normalised rows. -/
theorem normed_apply (x : A) (r : Fin 1024 → Fin 512 → ℝ) (hx : ∀ k l, x (ix2 k l) = (r k l : EReal)) (k : Fin 1024) (l : Fin 512) :
    normed x (ix2 k l) = (norm (r k) l : EReal) := by
  pointwise [normed, wide, num]
  rw [vars_apply]
  simp only [dist_apply, hx]
  exact norm_of_distances (r k) l

/-- Row 0 of the reference's result: the sum of `dy` times the normalised `x`. -/
theorem out_zero (x y : A) (r : Fin 1024 → Fin 512 → ℝ) (hx : ∀ k l, x (ix2 k l) = (r k l : EReal)) (l : Fin 512) :
    out x y (ix2 0 l) = ∑ k : Fin 1024, y (ix2 k l) * (norm (r k) l : EReal) := by
  pointwise [out, total]
  exact Finset.sum_congr rfl fun k _ => congrArg (y (ix2 k l) * ·) (normed_apply x r hx k l)

/-- Row 1 of the reference's result: the sum of `dy`. -/
theorem out_one (x y : A) (l : Fin 512) : out x y (ix2 1 l) = ∑ k : Fin 1024, y (ix2 k l) := by
  pointwise [out, total]

end Cert.ReferenceIdealProof

end
-- ==== Proof.Equation.lean ====
/-
# The kernel's result is the reference's

The devices with the same first coordinate hold the two halves of the 1024 rows, cut by the second coordinate. So the sum
over all rows is the sum of a device's half and its partner's, in one order or the other. The precondition says that
every entry of `x` has a size below infinity, so that it is a real number.
-/
module

public import proofs.«01_k».proof.Defs
public import proofs.«01_k».proof.Proof.KernelValue
public import proofs.«01_k».proof.Proof.ReferenceValue

@[expose] public section

noncomputable section

namespace Cert.Equation

open Cert.LayerNorm
open Idealize.ShloMosaic Idealize.ShloMosaic.TcCoe Idealize.SL.Sem

/-- The whole array of 1024 rows. -/
abbrev Whole := FVec Idealize.ShloMosaic.Ideal ⟨2, ![1024, 512]⟩ .f32

/-- The half of the whole array's rows that device `c` holds. -/
def half (c : Fin 4) (X : Whole) : FVec Idealize.ShloMosaic.Ideal ⟨2, ![512, 512]⟩ .f32 :=
  Layout.blockN ⟨2, ![512, 512]⟩ ⟨2, ![1024, 512]⟩ (Layout.meshBlock [2, 2] ![[1], []] c) X

/-- Row `k` of device `c`'s half, as a row of the whole array. -/
def row (c : Fin 4) (k : Fin 512) : Fin 1024 := ⟨c.val % 2 * 512 + k.val, by omega⟩

/-- An entry of a device's half. -/
theorem half_apply (c : Fin 4) (X : Whole) (k l : Fin 512) : half c X (ix2 k l) = X (ix2 (row c k) l) := by
  unfold half
  rw [Layout.blockN_apply _ _ (by decide)]
  refine congrArg X (funext fun a => Fin.ext ?_)
  rw [Layout.TilesN.idx_val]
  fin_cases c <;> fin_cases a <;> simp [row, Layout.meshBlock, Layout.meshLin, Layout.meshCoord, Layout.cutSize]

/-- A sum over all rows is the sum over a device's rows and its partner's. -/
theorem sum_halves (c : Fin 4) (f : Fin 1024 → EReal) :
    ∑ k, f k = (∑ k, f (row c k)) + ∑ k, f (row (Cert.KernelIdealProof.peer c) k) := by
  have e : ∑ k, f k = (∑ k, f (row 0 k)) + ∑ k, f (row 1 k) := by
    rw [Fin.sum_univ_add (a := 512) (b := 512)]
    refine congrArg₂ (· + ·) (Finset.sum_congr rfl fun k _ => congrArg f (Fin.ext ?_)) (Finset.sum_congr rfl fun k _ => congrArg f (Fin.ext ?_))
    · simp [row]
    · simp [row, Nat.add_comm]
  fin_cases c
  · exact e
  · exact e.trans (add_comm _ _)
  · exact e
  · exact e.trans (add_comm _ _)

/-- A number whose size is below infinity is real. -/
theorem real_of_lt {a : EReal} (h : Ideal.cmp .olt (max a (-a)) (Ideal.ofBits .f32 0x7F800000#32) = 1#1) : ∃ r : ℝ, a = r := by
  have ht : Ideal.ofBits .f32 0x7F800000#32 = ⊤ := by simp [Ideal.ofBits, Ideal.ieee]
  rw [ht] at h
  induction a with
  | bot => simp [Ideal.cmp] at h
  | top => simp [Ideal.cmp] at h
  | coe r => exact ⟨r, rfl⟩

/-- On halves of `X` with every entry real and halves of `Y`, the kernel's result on each device is the reference's. -/
theorem equal (m : (ℓ : Loc Cert.KernelIdeal.nD Cert.KernelIdeal.τ Cert.KernelIdeal.sig) → Buf (Elt Idealize.ShloMosaic.Ideal) ℓ)
    (ρ : Dev Cert.KernelIdeal.nD → PrngReg) (X Y : Whole)
    (hX : ∀ c, Cert.KernelIdealProof.xarr m c = half c X) (hY : ∀ c, Cert.KernelIdealProof.yarr m c = half c Y)
    (hf : ∀ c k l, ∃ r : ℝ, Cert.KernelIdealProof.xarr m c (ix2 k l) = r) (c : Dev Cert.KernelIdeal.nD) :
    Cert.KernelIdealProof.outAt m ρ c = Cert.ReferenceIdealProof.out X Y := by
  have hr : ∀ k l, ∃ r : ℝ, X (ix2 k l) = r := fun k l => by
    by_cases hk : k.val < 512
    · obtain ⟨r, e⟩ := hf 0 ⟨k.val, hk⟩ l
      rw [hX, half_apply] at e
      exact ⟨r, (congrArg (fun k => X (ix2 k l)) (Fin.ext (by simp [row]))).trans e⟩
    · obtain ⟨r, e⟩ := hf 1 ⟨k.val - 512, by omega⟩ l
      rw [hX, half_apply] at e
      exact ⟨r, (congrArg (fun k => X (ix2 k l)) (Fin.ext (by simp [row]; omega))).trans e⟩
  choose r hr using hr
  have hx : ∀ c k l, Cert.KernelIdealProof.xarr m c (ix2 k l) = (r (row c k) l : EReal) := fun c k l => by
    rw [hX, half_apply, hr]
  funext i
  obtain ⟨a, l, rfl⟩ : ∃ (a : Fin 2) (l : Fin 512), i = ix2 a l := ⟨i 0, i 1, eq_ix2 i⟩
  fin_cases a
  · refine (Cert.KernelIdealProof.outAt_zero m ρ (fun c k => r (row c k)) hx c l).trans (Eq.trans ?_ (Cert.ReferenceIdealProof.out_zero X Y r hr l).symm)
    rw [sum_halves c]
    simp only [hY, half_apply]
  · refine (Cert.KernelIdealProof.outAt_one m ρ c l).trans (Eq.trans ?_ (Cert.ReferenceIdealProof.out_one X Y l).symm)
    rw [sum_halves c]
    simp only [hY, half_apply]

end Cert.Equation

end
-- ==== Proof.lean ====
/-
# The proof of `Cert.Claim`

Each frame is the program's run with the result dropped; the frames under the precondition are the same. `preserves` has no
rewrite to prove. The equation of the kernel and the reference is `Cert.Equation.equal`.
-/
module

public import proofs.«01_k».proof.Defs
public import proofs.«01_k».proof.Proof.KernelEnd
public import proofs.«01_k».proof.Proof.Equation

@[expose] public section

noncomputable section

namespace Cert.Proof

open Idealize.ShloMosaic Idealize.ShloMosaic.TcCoe Idealize.SL.Sem

/-- The shape facts of the precondition, on one device's blocks. -/
theorem preFacts : Cert.Pre_x_finite_KernelIdeal.Facts := ⟨by decide⟩

/-- The shape facts of the precondition, on the whole arrays. -/
theorem preFacts' : Cert.Pre_x_finite_ReferenceIdeal.Facts := ⟨by decide⟩

/-- The idealized kernel and the reference end with the same result, where every entry of `x` is finite. -/
theorem algebraic : Cert.algebraic_KernelIdeal_ReferenceIdeal_pre_x_finite_KernelIdeal
    (hKernelIdeal := Cert.KernelIdeal.Gen.facts) (hReferenceIdeal := Cert.ReferenceIdeal.Gen.facts) (hPre_x_finite_KernelIdeal := preFacts) := by
  intro m g m' g' hpre hagree
  refine ⟨Cert.ReferenceIdealProof.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).1.trans ?_, (h.1 c).2⟩) (Cert.KernelIdealProof.ran m g)
    exact Cert.Equation.equal m g _ _ (fun c => (hagree c).1) (fun c => (hagree c).2.1)
      (fun c k l => Cert.Equation.real_of_lt (congrFun (hpre c) (ix2 k l))) c
  · exact (θ_run Cert.ReferenceIdeal.defs _ _).mono (fun r h => h.1 0) (Cert.ReferenceIdealProof.ran m' g')

theorem claim : Cert.Claim :=
  ⟨Cert.Kernel.Gen.facts, Cert.KernelIdeal.Gen.facts, Cert.ReferenceIdeal.Gen.facts, preFacts, preFacts',
   fun m g _ => (θ_run Cert.Kernel.defs _ _).mono (fun _ h => ⟨fun c => (h.1 c).2, h.2⟩) (Cert.KernelProof.ran m g),
   fun m g _ => (θ_run Cert.KernelIdeal.defs _ _).mono (fun _ h => ⟨fun c => (h.1 c).2, h.2⟩) (Cert.KernelIdealProof.ran m g),
   fun m g _ => (θ_run Cert.KernelIdeal.defs _ _).mono (fun _ h => ⟨fun c => (h.1 c).2, h.2⟩) (Cert.KernelIdealProof.ran m g),
   fun m g _ => (θ_run Cert.ReferenceIdeal.defs _ _).mono (fun _ h => ⟨fun c => (h.1 c).2, h.2⟩) (Cert.ReferenceIdealProof.ran m g),
   fun m g _ => (θ_run Cert.ReferenceIdeal.defs _ _).mono (fun _ h => ⟨fun c => (h.1 c).2, h.2⟩) (Cert.ReferenceIdealProof.ran m g),
   trivial, algebraic⟩

end Cert.Proof

end
